-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_encode_powers_of_two [hPre_scales_encode_powers_of_two : Cert.Pre_scales_encode_powers_of_two.Facts] (m : (ℓ : Loc Cert.KernelIdeal.nD Cert.KernelIdeal.τ Cert.KernelIdeal.sig) → Buf (Elt Ideal) ℓ) : Prop :=
  ∀ c : Dev Cert.KernelIdeal.nD,
    (Cert.Pre_scales_encode_powers_of_two.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_encode_powers_of_two [hPre_scales_encode_powers_of_two : Cert.Pre_scales_encode_powers_of_two.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_encode_powers_of_two.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_encode_powers_of_two [hKernelIdeal : Cert.KernelIdeal.Facts] [hPre_scales_encode_powers_of_two : Cert.Pre_scales_encode_powers_of_two.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_encode_powers_of_two m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_encode_powers_of_two [hReferenceIdeal : Cert.ReferenceIdeal.Facts] [hPre_scales_encode_powers_of_two : Cert.Pre_scales_encode_powers_of_two.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_encode_powers_of_two m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "c_exp" .f32 0x3E0293EE#32 (((Real.sqrt 128)⁻¹ * (Real.log 2)⁻¹ : ℝ) : EReal)

def algebraic_KernelIdeal_ReferenceIdeal_pre_scales_encode_powers_of_two [hKernelIdeal : Cert.KernelIdeal.Facts] [hReferenceIdeal : Cert.ReferenceIdeal.Facts] [hPre_scales_encode_powers_of_two : Cert.Pre_scales_encode_powers_of_two.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_encode_powers_of_two m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_encode_powers_of_two : Cert.Pre_scales_encode_powers_of_two.Facts),
    quiescent_Kernel (hKernel := hKernel)
    ∧ quiescent_KernelIdeal (hKernelIdeal := hKernelIdeal)
    ∧ quiescent_KernelIdeal_pre_scales_encode_powers_of_two (hKernelIdeal := hKernelIdeal) (hPre_scales_encode_powers_of_two := hPre_scales_encode_powers_of_two)
    ∧ quiescent_ReferenceIdeal (hReferenceIdeal := hReferenceIdeal)
    ∧ quiescent_ReferenceIdeal_pre_scales_encode_powers_of_two (hReferenceIdeal := hReferenceIdeal) (hPre_scales_encode_powers_of_two := hPre_scales_encode_powers_of_two)
    ∧ preserves_Kernel_KernelIdeal
    ∧ algebraic_KernelIdeal_ReferenceIdeal_pre_scales_encode_powers_of_two (hKernelIdeal := hKernelIdeal) (hReferenceIdeal := hReferenceIdeal) (hPre_scales_encode_powers_of_two := hPre_scales_encode_powers_of_two)
-- ==== Pre_scales_encode_powers_of_two.lean ====
abbrev S3x640x14x128 : Shape := ⟨4, ![3, 640, 14, 128]⟩
abbrev S3x640x14x4 : Shape := ⟨4, ![3, 640, 14, 4]⟩
abbrev S3x640x2x128 : Shape := ⟨4, ![3, 640, 2, 128]⟩
abbrev S3x640x2x4 : Shape := ⟨4, ![3, 640, 2, 4]⟩
abbrev S3x20x2x128 : Shape := ⟨4, ![3, 20, 2, 128]⟩
abbrev S_ : Shape := ⟨0, ![]⟩

class Facts : Prop where
  natLt_8_32 : 8 < 32
  bcast_S_S3x640x14x4 : S_.BroadcastsInDim S3x640x14x4 (![] : Fin 0 → Fin S3x640x14x4.rank)
  reducesTo_S3x640x14x4_S_d0_1_2_3 : S3x640x14x4.ReducesTo [0, 1, 2, 3] S_
  h_S_ : 0 < S_.numel
  bcast_S_S3x640x2x4 : S_.BroadcastsInDim S3x640x2x4 (![] : Fin 0 → Fin S3x640x2x4.rank)
  reducesTo_S3x640x2x4_S_d0_1_2_3 : S3x640x2x4.ReducesTo [0, 1, 2, 3] S_
  bcast_S_S3x20x2x128 : S_.BroadcastsInDim S3x20x2x128 (![] : Fin 0 → Fin S3x20x2x128.rank)
  reducesTo_S3x20x2x128_S_d0_1_2_3 : S3x20x2x128.ReducesTo [0, 1, 2, 3] S_

variable [Facts]

def fn_part1 {F : FTy → Type} [FloatOps F] (main_v14 : IVec S_ 1) (main_v15 : IVec S3x20x2x128 32) (main_v16 : IVec S3x20x2x128 32) : IVec S_ 1 :=
  let main_v17 : IVec S3x20x2x128 1 := cmpi .sge main_v15 main_v16
  let main_c_6 : IVec S_ 32 := constantI S_ 32 254#32
  let main_v18 : IVec S3x20x2x128 32 := broadcastInDim S3x20x2x128 ![] bcast_S_S3x20x2x128 main_c_6
  let main_v19 : IVec S3x20x2x128 1 := cmpi .sle main_v15 main_v18
  let main_v20 : IVec S3x20x2x128 1 := andi main_v17 main_v19
  let main_c_7 : IVec S_ 1 := constantI S_ 1 1#1
  let main_v21 : IVec S_ 1 := (fun x v => Host.reduce IntOp.andi x v reducesTo_S3x20x2x128_S_d0_1_2_3 h_S_) main_v20 main_c_7
  let main_v22 : IVec S_ 1 := andi main_v14 main_v21
  main_v22

def fn {F : FTy → Type} [FloatOps F] (main_arg0 : FVec F S3x640x14x128 .fp8e4m3) (main_arg1 : IVec S3x640x14x4 8) (main_arg2 : FVec F S3x640x2x128 .fp8e4m3) (main_arg3 : IVec S3x640x2x4 8) (main_arg4 : FVec F S3x640x2x128 .fp8e4m3) (main_arg5 : IVec S3x20x2x128 8) : IVec S_ 1 :=
  let main_v0 : IVec S3x640x14x4 32 := (extui 32 · natLt_8_32) main_arg1
  let main_c : IVec S_ 32 := constantI S_ 32 1#32
  let main_v1 : IVec S3x640x14x4 32 := broadcastInDim S3x640x14x4 ![] bcast_S_S3x640x14x4 main_c
  let main_v2 : IVec S3x640x14x4 1 := cmpi .sge main_v0 main_v1
  let main_c_0 : IVec S_ 32 := constantI S_ 32 254#32
  let main_v3 : IVec S3x640x14x4 32 := broadcastInDim S3x640x14x4 ![] bcast_S_S3x640x14x4 main_c_0
  let main_v4 : IVec S3x640x14x4 1 := cmpi .sle main_v0 main_v3
  let main_v5 : IVec S3x640x14x4 1 := andi main_v2 main_v4
  let main_c_1 : IVec S_ 1 := constantI S_ 1 1#1
  let main_v6 : IVec S_ 1 := (fun x v => Host.reduce IntOp.andi x v reducesTo_S3x640x14x4_S_d0_1_2_3 h_S_) main_v5 main_c_1
  let main_v7 : IVec S3x640x2x4 32 := (extui 32 · natLt_8_32) main_arg3
  let main_c_2 : IVec S_ 32 := constantI S_ 32 1#32
  let main_v8 : IVec S3x640x2x4 32 := broadcastInDim S3x640x2x4 ![] bcast_S_S3x640x2x4 main_c_2
  let main_v9 : IVec S3x640x2x4 1 := cmpi .sge main_v7 main_v8
  let main_c_3 : IVec S_ 32 := constantI S_ 32 254#32
  let main_v10 : IVec S3x640x2x4 32 := broadcastInDim S3x640x2x4 ![] bcast_S_S3x640x2x4 main_c_3
  let main_v11 : IVec S3x640x2x4 1 := cmpi .sle main_v7 main_v10
  let main_v12 : IVec S3x640x2x4 1 := andi main_v9 main_v11
  let main_c_4 : IVec S_ 1 := constantI S_ 1 1#1
  let main_v13 : IVec S_ 1 := (fun x v => Host.reduce IntOp.andi x v reducesTo_S3x640x2x4_S_d0_1_2_3 h_S_) main_v12 main_c_4
  let main_v14 : IVec S_ 1 := andi main_v6 main_v13
  let main_v15 : IVec S3x20x2x128 32 := (extui 32 · natLt_8_32) main_arg5
  let main_c_5 : IVec S_ 32 := constantI S_ 32 1#32
  let main_v16 : IVec S3x20x2x128 32 := broadcastInDim S3x20x2x128 ![] bcast_S_S3x20x2x128 main_c_5
  fn_part1 (F := F) main_v14 main_v15 main_v16
-- ==== Kernel.lean ====
abbrev S3x640x14x128 : Shape := ⟨4, ![3, 640, 14, 128]⟩
abbrev S3x640x14x4 : Shape := ⟨4, ![3, 640, 14, 4]⟩
abbrev S3x640x2x128 : Shape := ⟨4, ![3, 640, 2, 128]⟩
abbrev S3x640x2x4 : Shape := ⟨4, ![3, 640, 2, 4]⟩
abbrev S3x20x2x128 : Shape := ⟨4, ![3, 20, 2, 128]⟩
abbrev S3x14x640x128 : Shape := ⟨4, ![3, 14, 640, 128]⟩
abbrev S3x14x4x640 : Shape := ⟨4, ![3, 14, 4, 640]⟩
abbrev S3x2x640x128 : Shape := ⟨4, ![3, 2, 640, 128]⟩
abbrev S3x2x4x640 : Shape := ⟨4, ![3, 2, 4, 640]⟩
abbrev S3x2x20x128 : Shape := ⟨4, ![3, 2, 20, 128]⟩
abbrev S3x640x1792 : Shape := ⟨3, ![3, 640, 1792]⟩
abbrev S1x7x640x128 : Shape := ⟨4, ![1, 7, 640, 128]⟩
abbrev S1x7x4x640 : Shape := ⟨4, ![1, 7, 4, 640]⟩
abbrev S1x1x640x128 : Shape := ⟨4, ![1, 1, 640, 128]⟩
abbrev S1x1x4x640 : Shape := ⟨4, ![1, 1, 4, 640]⟩
abbrev S1x1x20x128 : Shape := ⟨4, ![1, 1, 20, 128]⟩
abbrev S1x640x896 : Shape := ⟨3, ![1, 640, 896]⟩
abbrev S640x128 : Shape := ⟨2, ![640, 128]⟩
abbrev S128x640 : Shape := ⟨2, ![128, 640]⟩
abbrev S7x4x640 : Shape := ⟨3, ![7, 4, 640]⟩
abbrev S4x640 : Shape := ⟨2, ![4, 640]⟩
abbrev S20x128 : Shape := ⟨2, ![20, 128]⟩
abbrev S2x640x128 : Shape := ⟨3, ![2, 640, 128]⟩
abbrev S2x200x128 : Shape := ⟨3, ![2, 200, 128]⟩
abbrev S2x24x128 : Shape := ⟨3, ![2, 24, 128]⟩
abbrev S1x4x640 : Shape := ⟨3, ![1, 4, 640]⟩
abbrev S1x1x128x128 : Shape := ⟨4, ![1, 1, 128, 128]⟩
abbrev S128x128 : Shape := ⟨2, ![128, 128]⟩
abbrev S1x128 : Shape := ⟨2, ![1, 128]⟩
abbrev S16x128 : Shape := ⟨2, ![16, 128]⟩
abbrev S32x128 : Shape := ⟨2, ![32, 128]⟩
abbrev S128x256 : Shape := ⟨2, ![128, 256]⟩
abbrev S1x32x128 : Shape := ⟨3, ![1, 32, 128]⟩
abbrev S4x8x128 : Shape := ⟨3, ![4, 8, 128]⟩
abbrev S8x128 : Shape := ⟨2, ![8, 128]⟩
abbrev S1x200x128 : Shape := ⟨3, ![1, 200, 128]⟩
abbrev S200x128 : Shape := ⟨2, ![200, 128]⟩
abbrev S1x8x128 : Shape := ⟨3, ![1, 8, 128]⟩
abbrev S128 : Shape := ⟨1, ![128]⟩
abbrev S1x1x128 : Shape := ⟨3, ![1, 1, 128]⟩
abbrev S1x128x128 : Shape := ⟨3, ![1, 128, 128]⟩
abbrev S256x128 : Shape := ⟨2, ![256, 128]⟩
abbrev S256x256 : Shape := ⟨2, ![256, 256]⟩
abbrev S1x256x128 : Shape := ⟨3, ![1, 256, 128]⟩
abbrev S384x128 : Shape := ⟨2, ![384, 128]⟩
abbrev S384x256 : Shape := ⟨2, ![384, 256]⟩
abbrev S1x16x128 : Shape := ⟨3, ![1, 16, 128]⟩
abbrev S1x384x128 : Shape := ⟨3, ![1, 384, 128]⟩
abbrev S128x384 : Shape := ⟨2, ![128, 384]⟩
abbrev S512x128 : Shape := ⟨2, ![512, 128]⟩
abbrev S512x256 : Shape := ⟨2, ![512, 256]⟩
abbrev S1x512x128 : Shape := ⟨3, ![1, 512, 128]⟩
abbrev S128x512 : Shape := ⟨2, ![128, 512]⟩
abbrev S640x256 : Shape := ⟨2, ![640, 256]⟩
abbrev S1x24x128 : Shape := ⟨3, ![1, 24, 128]⟩
abbrev S24x128 : Shape := ⟨2, ![24, 128]⟩
abbrev S1x640x128 : Shape := ⟨3, ![1, 640, 128]⟩

abbrev nBuf : Space → Nat
  | .hbm => 13
  | .vmem => 24
  | .smem => 0
  | _ => 0

abbrev bufTy : (tb : Table) → Fin (tcTables nBuf tb) → BufTy
  | .hbm, ⟨0, _⟩ => ⟨S3x640x14x128, .fp8e4m3⟩
  | .hbm, ⟨1, _⟩ => ⟨S3x640x14x4, .i8⟩
  | .hbm, ⟨2, _⟩ => ⟨S3x640x2x128, .fp8e4m3⟩
  | .hbm, ⟨3, _⟩ => ⟨S3x640x2x4, .i8⟩
  | .hbm, ⟨4, _⟩ => ⟨S3x640x2x128, .fp8e4m3⟩
  | .hbm, ⟨5, _⟩ => ⟨S3x20x2x128, .i8⟩
  | .hbm, ⟨6, _⟩ => ⟨S3x14x640x128, .fp8e4m3⟩
  | .hbm, ⟨7, _⟩ => ⟨S3x14x4x640, .i8⟩
  | .hbm, ⟨8, _⟩ => ⟨S3x2x640x128, .fp8e4m3⟩
  | .hbm, ⟨9, _⟩ => ⟨S3x2x4x640, .i8⟩
  | .hbm, ⟨10, _⟩ => ⟨S3x2x640x128, .fp8e4m3⟩
  | .hbm, ⟨11, _⟩ => ⟨S3x2x20x128, .i8⟩
  | .hbm, ⟨12, _⟩ => ⟨S3x640x1792, .bf16⟩
  | .local _ .vmem, ⟨0, _⟩ => ⟨S1x7x640x128, .fp8e4m3⟩
  | .local _ .vmem, ⟨1, _⟩ => ⟨S1x7x640x128, .fp8e4m3⟩
  | .local _ .vmem, ⟨2, _⟩ => ⟨S1x7x4x640, .i8⟩
  | .local _ .vmem, ⟨3, _⟩ => ⟨S1x7x4x640, .i8⟩
  | .local _ .vmem, ⟨4, _⟩ => ⟨S1x1x640x128, .fp8e4m3⟩
  | .local _ .vmem, ⟨5, _⟩ => ⟨S1x1x640x128, .fp8e4m3⟩
  | .local _ .vmem, ⟨6, _⟩ => ⟨S1x1x4x640, .i8⟩
  | .local _ .vmem, ⟨7, _⟩ => ⟨S1x1x4x640, .i8⟩
  | .local _ .vmem, ⟨8, _⟩ => ⟨S1x1x640x128, .fp8e4m3⟩
  | .local _ .vmem, ⟨9, _⟩ => ⟨S1x1x640x128, .fp8e4m3⟩
  | .local _ .vmem, ⟨10, _⟩ => ⟨S1x1x20x128, .i8⟩
  | .local _ .vmem, ⟨11, _⟩ => ⟨S1x1x20x128, .i8⟩
  | .local _ .vmem, ⟨12, _⟩ => ⟨S1x640x896, .bf16⟩
  | .local _ .vmem, ⟨13, _⟩ => ⟨S1x640x896, .bf16⟩
  | .local _ .vmem, ⟨14, _⟩ => ⟨S640x128, .bf16⟩
  | .local _ .vmem, ⟨15, _⟩ => ⟨S128x640, .bf16⟩
  | .local _ .vmem, ⟨16, _⟩ => ⟨S7x4x640, .i32⟩
  | .local _ .vmem, ⟨17, _⟩ => ⟨S4x640, .i32⟩
  | .local _ .vmem, ⟨18, _⟩ => ⟨S20x128, .i32⟩
  | .local _ .vmem, ⟨19, _⟩ => ⟨S2x640x128, .f32⟩
  | .local _ .vmem, ⟨20, _⟩ => ⟨S2x640x128, .bf16⟩
  | .local _ .vmem, ⟨21, _⟩ => ⟨S2x200x128, .f32⟩
  | .local _ .vmem, ⟨22, _⟩ => ⟨S2x24x128, .f32⟩
  | .local _ .vmem, ⟨23, _⟩ => ⟨S2x24x128, .i32⟩
  | _, _ => ⟨S3x640x14x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x7x640x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x7x4x640 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x640x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x640 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x640x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x20x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x640x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "c_exp" => some (((Real.sqrt 128)⁻¹ * (Real.log 2)⁻¹ : ℝ) : EReal)
  | _ => none
-- ==== ReferenceIdeal.lean ====
abbrev S3x640x14x128 : Shape := ⟨4, ![3, 640, 14, 128]⟩
abbrev S3x640x14x4 : Shape := ⟨4, ![3, 640, 14, 4]⟩
abbrev S3x640x2x128 : Shape := ⟨4, ![3, 640, 2, 128]⟩
abbrev S3x640x2x4 : Shape := ⟨4, ![3, 640, 2, 4]⟩
abbrev S3x20x2x128 : Shape := ⟨4, ![3, 20, 2, 128]⟩
abbrev S3x640x14x4x32 : Shape := ⟨5, ![3, 640, 14, 4, 32]⟩
abbrev S_ : Shape := ⟨0, ![]⟩
abbrev S3x640x14x4x1 : Shape := ⟨5, ![3, 640, 14, 4, 1]⟩
abbrev S3x640x2x7x128 : Shape := ⟨5, ![3, 640, 2, 7, 128]⟩
abbrev S3x2x7x640x128 : Shape := ⟨5, ![3, 2, 7, 640, 128]⟩
abbrev S3x640x2x4x32 : Shape := ⟨5, ![3, 640, 2, 4, 32]⟩
abbrev S3x640x2x4x1 : Shape := ⟨5, ![3, 640, 2, 4, 1]⟩
abbrev S3x2x640x128 : Shape := ⟨4, ![3, 2, 640, 128]⟩
abbrev S3x20x32x2x128 : Shape := ⟨5, ![3, 20, 32, 2, 128]⟩
abbrev S3x20x1x2x128 : Shape := ⟨5, ![3, 20, 1, 2, 128]⟩
abbrev S3x2x7x640x640 : Shape := ⟨5, ![3, 2, 7, 640, 640]⟩
abbrev S640 : Shape := ⟨1, ![640]⟩
abbrev S1x640 : Shape := ⟨2, ![1, 640]⟩
abbrev S640x1 : Shape := ⟨2, ![640, 1]⟩
abbrev S640x640 : Shape := ⟨2, ![640, 640]⟩
abbrev S3x2x7x640 : Shape := ⟨4, ![3, 2, 7, 640]⟩
abbrev S3x2x7x640x1 : Shape := ⟨5, ![3, 2, 7, 640, 1]⟩
abbrev S3x2x7x640x20x32 : Shape := ⟨6, ![3, 2, 7, 640, 20, 32]⟩
abbrev S3x2x7x640x20 : Shape := ⟨5, ![3, 2, 7, 640, 20]⟩
abbrev S3x2x7x640x20x1 : Shape := ⟨6, ![3, 2, 7, 640, 20, 1]⟩
abbrev S3x2x128x7x640 : Shape := ⟨5, ![3, 2, 128, 7, 640]⟩
abbrev S3x640x1792 : Shape := ⟨3, ![3, 640, 1792]⟩

abbrev nBuf : Space → Nat
  | .hbm => 134
  | .vmem => 8
  | .smem => 0
  | _ => 0

abbrev hbmTy0_0 (i : Nat) : BufTy := match i % 128 with
  | 0 => ⟨S3x640x14x128, .fp8e4m3⟩
  | 1 => ⟨S3x640x14x4, .i8⟩
  | 2 => ⟨S3x640x2x128, .fp8e4m3⟩
  | 3 => ⟨S3x640x2x4, .i8⟩
  | 4 => ⟨S3x640x2x128, .fp8e4m3⟩
  | 5 => ⟨S3x20x2x128, .i8⟩
  | 6 => ⟨S3x640x14x128, .bf16⟩
  | 7 => ⟨S3x640x2x128, .bf16⟩
  | 8 => ⟨S3x640x2x128, .bf16⟩
  | 9 => ⟨S3x640x14x4x32, .bf16⟩
  | 10 => ⟨S3x640x14x4, .i32⟩
  | 11 => ⟨S3x640x14x4, .f32⟩
  | 12 => ⟨S_, .f32⟩
  | 13 => ⟨S3x640x14x4, .f32⟩
  | 14 => ⟨S3x640x14x4, .f32⟩
  | 15 => ⟨S_, .f32⟩
  | 16 => ⟨S3x640x14x4, .f32⟩
  | 17 => ⟨S3x640x14x4, .f32⟩
  | 18 => ⟨S3x640x14x4, .bf16⟩
  | 19 => ⟨S3x640x14x4x1, .bf16⟩
  | 20 => ⟨S3x640x14x4x32, .bf16⟩
  | 21 => ⟨S3x640x14x4x32, .bf16⟩
  | 22 => ⟨S3x640x2x7x128, .bf16⟩
  | 23 => ⟨S3x2x7x640x128, .bf16⟩
  | 24 => ⟨S3x640x2x4x32, .bf16⟩
  | 25 => ⟨S3x640x2x4, .i32⟩
  | 26 => ⟨S3x640x2x4, .f32⟩
  | 27 => ⟨S_, .f32⟩
  | 28 => ⟨S3x640x2x4, .f32⟩
  | 29 => ⟨S3x640x2x4, .f32⟩
  | 30 => ⟨S_, .f32⟩
  | 31 => ⟨S3x640x2x4, .f32⟩
  | 32 => ⟨S3x640x2x4, .f32⟩
  | 33 => ⟨S3x640x2x4, .bf16⟩
  | 34 => ⟨S3x640x2x4x1, .bf16⟩
  | 35 => ⟨S3x640x2x4x32, .bf16⟩
  | 36 => ⟨S3x640x2x4x32, .bf16⟩
  | 37 => ⟨S3x640x2x128, .bf16⟩
  | 38 => ⟨S3x2x640x128, .bf16⟩
  | 39 => ⟨S3x20x32x2x128, .bf16⟩
  | 40 => ⟨S3x20x2x128, .i32⟩
  | 41 => ⟨S3x20x2x128, .f32⟩
  | 42 => ⟨S_, .f32⟩
  | 43 => ⟨S3x20x2x128, .f32⟩
  | 44 => ⟨S3x20x2x128, .f32⟩
  | 45 => ⟨S_, .f32⟩
  | 46 => ⟨S3x20x2x128, .f32⟩
  | 47 => ⟨S3x20x2x128, .f32⟩
  | 48 => ⟨S3x20x2x128, .bf16⟩
  | 49 => ⟨S3x20x1x2x128, .bf16⟩
  | 50 => ⟨S3x20x32x2x128, .bf16⟩
  | 51 => ⟨S3x20x32x2x128, .bf16⟩
  | 52 => ⟨S3x640x2x128, .bf16⟩
  | 53 => ⟨S3x2x640x128, .bf16⟩
  | 54 => ⟨S3x2x7x640x640, .f32⟩
  | 55 => ⟨S_, .f32⟩
  | 56 => ⟨S_, .f32⟩
  | 57 => ⟨S3x2x7x640x640, .f32⟩
  | 58 => ⟨S3x2x7x640x640, .f32⟩
  | 59 => ⟨S640, .i32⟩
  | 60 => ⟨S1x640, .i32⟩
  | 61 => ⟨S640x1, .i32⟩
  | 62 => ⟨S640x640, .i32⟩
  | 63 => ⟨S640x640, .i32⟩
  | 64 => ⟨S640x640, .i1⟩
  | 65 => ⟨S_, .f32⟩
  | 66 => ⟨S_, .f32⟩
  | 67 => ⟨S3x2x7x640x640, .i1⟩
  | 68 => ⟨S3x2x7x640x640, .f32⟩
  | 69 => ⟨S3x2x7x640x640, .f32⟩
  | 70 => ⟨S_, .f32⟩
  | 71 => ⟨S3x2x7x640, .f32⟩
  | 72 => ⟨S3x2x7x640x1, .f32⟩
  | 73 => ⟨S3x2x7x640x640, .f32⟩
  | 74 => ⟨S3x2x7x640x640, .f32⟩
  | 75 => ⟨S3x2x7x640x640, .f32⟩
  | 76 => ⟨S_, .f32⟩
  | 77 => ⟨S3x2x7x640, .f32⟩
  | 78 => ⟨S3x2x7x640x1, .f32⟩
  | 79 => ⟨S_, .f32⟩
  | 80 => ⟨S3x2x7x640x1, .f32⟩
  | 81 => ⟨S3x2x7x640x1, .f32⟩
  | 82 => ⟨S3x2x7x640x640, .f32⟩
  | 83 => ⟨S3x2x7x640x640, .f32⟩
  | 84 => ⟨S3x2x7x640x20x32, .f32⟩
  | 85 => ⟨S_, .f32⟩
  | 86 => ⟨S3x2x7x640x20, .f32⟩
  | 87 => ⟨S_, .f32⟩
  | 88 => ⟨S3x2x7x640x20, .f32⟩
  | 89 => ⟨S3x2x7x640x20, .i1⟩
  | 90 => ⟨S_, .f32⟩
  | 91 => ⟨S3x2x7x640x20, .f32⟩
  | 92 => ⟨S3x2x7x640x20, .f32⟩
  | 93 => ⟨S3x2x7x640x20, .f32⟩
  | 94 => ⟨S_, .f32⟩
  | 95 => ⟨S_, .f32⟩
  | 96 => ⟨S3x2x7x640x20, .f32⟩
  | 97 => ⟨S3x2x7x640x20, .f32⟩
  | 98 => ⟨S3x2x7x640x20, .f32⟩
  | 99 => ⟨S_, .f32⟩
  | 100 => ⟨S3x2x7x640x20, .f32⟩
  | 101 => ⟨S3x2x7x640x20, .f32⟩
  | 102 => ⟨S_, .f32⟩
  | 103 => ⟨S_, .f32⟩
  | 104 => ⟨S3x2x7x640x20, .f32⟩
  | 105 => ⟨S3x2x7x640x20, .f32⟩
  | 106 => ⟨S_, .f32⟩
  | 107 => ⟨S3x2x7x640x20, .f32⟩
  | 108 => ⟨S3x2x7x640x20, .f32⟩
  | 109 => ⟨S3x2x7x640x20, .f32⟩
  | 110 => ⟨S_, .f32⟩
  | 111 => ⟨S3x2x7x640x20, .f32⟩
  | 112 => ⟨S3x2x7x640x20, .f32⟩
  | 113 => ⟨S3x2x7x640x20x1, .f32⟩
  | 114 => ⟨S3x2x7x640x20x32, .f32⟩
  | 115 => ⟨S3x2x7x640x20x32, .f32⟩
  | 116 => ⟨S_, .f32⟩
  | 117 => ⟨S_, .f32⟩
  | 118 => ⟨S_, .f32⟩
  | 119 => ⟨S3x2x7x640x20x32, .f32⟩
  | 120 => ⟨S3x2x7x640x20x32, .f32⟩
  | 121 => ⟨S_, .f32⟩
  | 122 => ⟨S3x2x7x640x20x32, .f32⟩
  | 123 => ⟨S3x2x7x640x20x32, .f32⟩
  | 124 => ⟨S3x2x7x640x20x32, .bf16⟩
  | 125 => ⟨S3x2x7x640x20, .bf16⟩
  | 126 => ⟨S3x2x7x640x20x1, .bf16⟩
  | 127 => ⟨S3x2x7x640x20x32, .bf16⟩
  | _ => ⟨S3x640x14x128, .fp8e4m3⟩

abbrev hbmTy0_1 (i : Nat) : BufTy := match i % 128 with
  | 0 => ⟨S3x2x7x640x20x32, .bf16⟩
  | 1 => ⟨S3x2x7x640x640, .bf16⟩
  | 2 => ⟨S3x2x128x7x640, .f32⟩
  | 3 => ⟨S3x640x2x7x128, .f32⟩
  | 4 => ⟨S3x640x1792, .f32⟩
  | 5 => ⟨S3x640x1792, .bf16⟩
  | _ => ⟨S3x640x14x128, .fp8e4m3⟩

abbrev hbmTy (i : Nat) : BufTy := match i / 128 with
  | 0 => hbmTy0_0 i
  | 1 => hbmTy0_1 i
  | _ => ⟨S3x640x14x128, .fp8e4m3⟩

abbrev bufTy : (tb : Table) → Fin (tcTables nBuf tb) → BufTy
  | .hbm, ⟨i, _⟩ => hbmTy i
  | .local _ .vmem, ⟨0, _⟩ => ⟨S3x640x14x128, .fp8e4m3⟩
  | .local _ .vmem, ⟨1, _⟩ => ⟨S3x640x2x128, .fp8e4m3⟩
  | .local _ .vmem, ⟨2, _⟩ => ⟨S3x640x2x128, .fp8e4m3⟩
  | .local _ .vmem, ⟨3, _⟩ => ⟨S3x640x14x128, .bf16⟩
  | .local _ .vmem, ⟨4, _⟩ => ⟨S3x640x2x128, .bf16⟩
  | .local _ .vmem, ⟨5, _⟩ => ⟨S3x640x2x128, .bf16⟩
  | .local _ .vmem, ⟨6, _⟩ => ⟨S3x2x7x640x20x32, .f32⟩
  | .local _ .vmem, ⟨7, _⟩ => ⟨S3x2x7x640x20x32, .bf16⟩
  | _, _ => ⟨S3x640x14x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_call1_v0 : Ref sig .tc := ⟨.hbm, 103, rfl⟩
abbrev main_call1_v1 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_17 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_18 : Ref sig .tc := ⟨.hbm, 116, rfl⟩
abbrev main_cst_19 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := .none

abbrev stage0_0 : Fin 1 → Memref sig .tc .vmem S3x640x14x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x2x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x2x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x14x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x2x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x2x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

abbrev stage1_0 : Fin 1 → Memref sig .tc .vmem S3x2x7x640x20x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3x2x7x640x20x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== Proof.Lang.lean ====
module

public import Idealize.ShloMosaic.Lib.Pipeline
public import Idealize.ShloMosaic.Lib.Sig
public import Idealize.ShloMosaic.PureOps
public import Idealize.ShloMosaic.PureOps.Ideal

@[expose] public section

noncomputable section

/-!
# The kernel body's memory operations, by the buffer they name

The kernel body does nothing but load from and store to the seventeen buffers it is handed. `Op` is that
little language: a buffer by its name (`Slot`), a rectangle, and for a store the vector written. `den`
says which program over real memory references a program over names stands for; `ev` runs one on plain
functions.
-/

namespace Cert.Mx

open Idealize.ShloMosaic Idealize.SL.Sem

/-- The buffers of the kernel body: six blocks read, the block written, ten scratch buffers. -/
inductive Slot
  | q | qs | k | ks | v | vs | o | kbf | vt | qsw | ksw | vsw | s | p | slab | g | w
  deriving DecidableEq

/-- A buffer's shape. -/
abbrev Slot.shp : Slot → Shape
  | .q => ⟨4, ![1, 7, 640, 128]⟩
  | .qs => ⟨4, ![1, 7, 4, 640]⟩
  | .k => ⟨4, ![1, 1, 640, 128]⟩
  | .ks => ⟨4, ![1, 1, 4, 640]⟩
  | .v => ⟨4, ![1, 1, 640, 128]⟩
  | .vs => ⟨4, ![1, 1, 20, 128]⟩
  | .o => ⟨3, ![1, 640, 896]⟩
  | .kbf => ⟨2, ![640, 128]⟩
  | .vt => ⟨2, ![128, 640]⟩
  | .qsw => ⟨3, ![7, 4, 640]⟩
  | .ksw => ⟨2, ![4, 640]⟩
  | .vsw => ⟨2, ![20, 128]⟩
  | .s => ⟨3, ![2, 640, 128]⟩
  | .p => ⟨3, ![2, 640, 128]⟩
  | .slab => ⟨3, ![2, 200, 128]⟩
  | .g => ⟨3, ![2, 24, 128]⟩
  | .w => ⟨3, ![2, 24, 128]⟩

/-- A buffer's element type. -/
abbrev Slot.elt : Slot → EltTy
  | .q => .fp8e4m3
  | .qs => .i8
  | .k => .fp8e4m3
  | .ks => .i8
  | .v => .fp8e4m3
  | .vs => .i8
  | .o => .bf16
  | .kbf => .bf16
  | .vt => .bf16
  | .qsw => .i32
  | .ksw => .i32
  | .vsw => .i32
  | .s => .f32
  | .p => .bf16
  | .slab => .f32
  | .g => .f32
  | .w => .i32

/-- One memory operation on a named buffer: a load or a store through a rectangle, and the same two through
    one leading slab of a buffer taken as a matrix. -/
inductive Op (F : FTy → Type) : Type → Type
  | load (a : Slot) (r : LoadRect a.shp) (h : 0 < r.shape.numel) : Op F (r.shape.Idx → Elt F a.elt)
  | store (a : Slot) (r : Rect a.shp) (w : r.shape.Idx → Elt F a.elt) (h : 0 < r.shape.numel)
      (hx : a.elt.bits = 32 ∨ r.PackedRows a.elt.packing) : Op F PUnit
  | loadIn (a : Slot) (u : Rect a.shp) (hu : ∀ x, u.stride x = 1) (t : Shape) (ht : u.shape.Squeezes t)
      (r : LoadRect t) (h : 0 < r.shape.numel) : Op F (r.shape.Idx → Elt F a.elt)
  | storeIn (a : Slot) (u : Rect a.shp) (hu : ∀ x, u.stride x = 1) (t : Shape) (ht : u.shape.Squeezes t)
      (r : Rect t) (w : r.shape.Idx → Elt F a.elt) (h : 0 < r.shape.numel) (hx : a.elt.bits = 32) : Op F PUnit

/-- The memory references the names stand for, each a whole buffer. -/
structure Refs (sig : RefSig) where
  m : (a : Slot) → Memref sig .tc .vmem a.shp a.elt
  whole : (a : Slot) → (m a).IsWhole

variable {F : FTy → Type} {nD : Nat} {τ : Topo} {sig : RefSig} {Λ : Labels}

/-- The operation on real memory a named operation stands for. -/
def Op.den (M : Refs sig) : {β : Type} → Op F β → TpuEff nD τ sig (Elt F) Λ .tc β
  | _, .load a r h => .load (M.m a) r (View.loadsAt_vmem h)
  | _, .store a r w h hx =>
    .store (M.m a) r w Finset.univ
      (View.stores_vmem h (hx.elim (fun e => View.storeExact_bits _ _ e) (fun p => (M.whole a).storeExact_slice rfl r p)) (fun _ => rfl))
      (.inl rfl)
  | _, .loadIn a u hu t ht r h => .load (((M.m a).slice u hu).squeeze t ht) r (View.loadsAt_vmem h)
  | _, .storeIn a u hu t ht r w h hx =>
    .store (((M.m a).slice u hu).squeeze t ht) r w Finset.univ (View.stores_vmem_bits_univ h hx) (.inl rfl)

/-- The program on real memory a program over names stands for. -/
def den (M : Refs sig) {α : Type} : Prog (Op F) α → Prog (TpuEff nD τ sig (Elt F) Λ .tc) α
  | .ret a => .ret a
  | .op e k => .op (e.den M) (fun x => den M (k x))

end Cert.Mx

end
-- ==== Proof.Tile.lean ====
module

public import proofs.«01_k».proof.Proof.Lang

@[expose] public section

noncomputable section

/-!
# The kernel body as a program with loops

The body written over named buffers with its loops kept: over heads, over 128-row tiles of keys and
values, over query tiles, over 32-row blocks of scores. Every operation is the one the kernel performs,
in its order (a store is preceded by a load of the same rectangle whose value is not used).
-/

namespace Cert.Mx

open Idealize.ShloMosaic Idealize.SL.Sem

abbrev M1 (a : ℕ) : Shape := ⟨1, ![a]⟩
abbrev M2 (a b : ℕ) : Shape := ⟨2, ![a, b]⟩
abbrev M3 (a b c : ℕ) : Shape := ⟨3, ![a, b, c]⟩
abbrev M4 (a b c d : ℕ) : Shape := ⟨4, ![a, b, c, d]⟩

/-! ## Shape facts at symbolic sizes -/

theorem le2 {a b x y : ℕ} (h0 : a ≤ x) (h1 : b ≤ y) : ∀ i : Fin 2, (![a, b] : Fin 2 → ℕ) i ≤ (![x, y] : Fin 2 → ℕ) i := fun i => by
  fin_cases i <;> assumption
theorem inb2 {a b c d x y : ℕ} (h0 : a + c ≤ x) (h1 : b + d ≤ y) :
    ∀ i : Fin 2, (![a, b] : Fin 2 → ℕ) i + (![c, d] : Fin 2 → ℕ) i ≤ (![x, y] : Fin 2 → ℕ) i := fun i => by
  fin_cases i <;> assumption
theorem inb3 {a b c d e f x y z : ℕ} (h0 : a + d ≤ x) (h1 : b + e ≤ y) (h2 : c + f ≤ z) :
    ∀ i : Fin 3, (![a, b, c] : Fin 3 → ℕ) i + (![d, e, f] : Fin 3 → ℕ) i ≤ (![x, y, z] : Fin 3 → ℕ) i := fun i => by
  fin_cases i <;> assumption
theorem inb4 {a b c d e f g h x y z w : ℕ} (h0 : a + e ≤ x) (h1 : b + f ≤ y) (h2 : c + g ≤ z) (h3 : d + h ≤ w) :
    ∀ i : Fin 4, (![a, b, c, d] : Fin 4 → ℕ) i + (![e, f, g, h] : Fin 4 → ℕ) i ≤ (![x, y, z, w] : Fin 4 → ℕ) i := fun i => by
  fin_cases i <;> assumption
theorem slices2 {a b c d x y : ℕ} (h0 : a + c ≤ x) (h1 : b + d ≤ y) : (M2 x y).Slices ![a, b] (M2 c d) :=
  ⟨rfl, inb2 h0 h1⟩
theorem pos2 {a b : ℕ} (h0 : 0 < a) (h1 : 0 < b) : 0 < (M2 a b).numel := by
  simp [Shape.numel, Fin.prod_univ_succ]; exact ⟨h0, h1⟩
theorem pos3 {a b c : ℕ} (h0 : 0 < a) (h1 : 0 < b) (h2 : 0 < c) : 0 < (M3 a b c).numel := by
  simp [Shape.numel, Fin.prod_univ_succ]; exact ⟨h0, h1, h2⟩
theorem casts3 (a b : ℕ) : (M3 1 a b).ShapeCasts (M2 a b) := by
  show Shape.numel _ = Shape.numel _; simp [Shape.numel, Fin.prod_univ_succ]
theorem casts2 (a b : ℕ) : (M2 a b).ShapeCasts (M3 1 a b) := by
  show Shape.numel _ = Shape.numel _; simp [Shape.numel, Fin.prod_univ_succ]
theorem casts4 (a b : ℕ) : (M4 1 1 a b).ShapeCasts (M2 a b) := by
  show Shape.numel _ = Shape.numel _; simp [Shape.numel, Fin.prod_univ_succ]
theorem casts1 (b : ℕ) : (M1 b).ShapeCasts (M2 1 b) := by
  show Shape.numel _ = Shape.numel _; simp [Shape.numel, Fin.prod_univ_succ]
theorem bcast2 (a b : ℕ) : (M2 1 b).Broadcasts (M2 a b) :=
  ⟨le_rfl, fun i => by fin_cases i; exacts [.inl rfl, .inr fun _ => rfl]⟩
theorem red2 (a b : ℕ) : (M2 a b).Reduces [0] (M1 b) := by
  refine ⟨rfl, Nat.one_pos, fun i => ?_⟩
  fin_cases i; rfl
theorem iotas2 (a b : ℕ) : (M2 a b).Iotas .tc 32 [0] := ⟨by simp, fun _ => ⟨.inr rfl, le_rfl⟩, fun h => absurd rfl h⟩
theorem cat2 (n : ℕ) : Shape.Concatenates [M2 n 128, M2 n 128] (M2 n 256) 1 := by
  refine ⟨le_rfl, fun s hs => ?_, rfl⟩
  have : s = M2 n 128 := by simpa using hs
  subst this
  refine ⟨rfl, fun b hb => ?_⟩
  fin_cases b; · rfl
  exact absurd rfl hb
theorem packed3 {a b c d e f x y z : ℕ} (i : ∀ j : Fin 3, (![a, b, c] : Fin 3 → ℕ) j + (![d, e, f] : Fin 3 → ℕ) j ≤ (![x, y, z] : Fin 3 → ℕ) j)
    (h0 : 2 ∣ b) (h1 : 2 ∣ e) : (Rect.unit (s := M3 x y z) ![a, b, c] ![d, e, f] i).PackedRows 2 :=
  .inr ⟨Nat.le_succ 2, rfl, .inl ⟨h0, h1⟩⟩
theorem packed2 {a b d e x y : ℕ} (i : ∀ j : Fin 2, (![a, b] : Fin 2 → ℕ) j + (![d, e] : Fin 2 → ℕ) j ≤ (![x, y] : Fin 2 → ℕ) j)
    (h0 : 2 ∣ a) (h1 : 2 ∣ d) : (Rect.unit (s := M2 x y) ![a, b] ![d, e] i).PackedRows 2 :=
  .inr ⟨Nat.le_refl 2, rfl, .inl ⟨h0, h1⟩⟩

theorem squeezes4 : (M3 1 4 640).Squeezes (M2 4 640) := by decide
theorem squeezes200 : (M3 1 200 128).Squeezes (M2 200 128) := by decide

/-! ## Loads, stores, loops -/

variable {F : FTy → Type} [FloatOps F]

/-- Load a block of a buffer. -/
abbrev ld (a : Slot) (off size : Fin a.shp.rank → ℕ) (inb : ∀ i, off i + size i ≤ a.shp.size i) (h : 0 < (⟨a.shp.rank, size⟩ : Shape).numel) :
    Prog (Op F) (Vec F ⟨a.shp.rank, size⟩ a.elt) :=
  Prog.lift (.load a (Rect.unit off size inb).toLoadRect h)
/-- Load a block of a buffer, drop what was read, and store over it. -/
abbrev st (a : Slot) (off size : Fin a.shp.rank → ℕ) (inb : ∀ i, off i + size i ≤ a.shp.size i) (h : 0 < (⟨a.shp.rank, size⟩ : Shape).numel)
    (hx : a.elt.bits = 32 ∨ (Rect.unit off size inb).PackedRows a.elt.packing) (w : Vec F ⟨a.shp.rank, size⟩ a.elt) : Prog (Op F) PUnit :=
  ld a off size inb h >>= fun _ => Prog.lift (.store a (Rect.unit off size inb) w h hx)

/-- `f 0`, `f 1`, …, `f (n - 1)` in order, each from what the one before left. -/
def loop {A : Type} : (n : ℕ) → (f : (i : ℕ) → i < n → A → Prog (Op F) A) → A → Prog (Op F) A
  | 0, _, a => .ret a
  | n + 1, f, a => (loop n (fun i h => f i (Nat.lt_succ_of_lt h)) a).bind (f n (Nat.lt_succ_self n))

/-! ## The scales -/

/-- A scale byte's two exponent fields: in the low half as a bf16 word, in the high half as another. -/
abbrev words (s : Shape) (x : IVec s 8) : IVec s 32 :=
  ori (shli (extui 32 x (by decide)) (broadcast s 7#32)) (shli (extui 32 x (by decide)) (broadcast s 23#32))

/-- A row of such words, as 32 rows of bf16 scales. -/
abbrev scaleRow (x : IVec (M2 1 128) 32) : FVec F (M2 32 128) .bf16 :=
  bitcastToFloat .bf16 (bitcast (M2 32 128) 16 (broadcastTo (M2 16 128) (shapeCast (M2 1 128) x rfl) (by decide)) (by decide))

/-- Four blocks of 32 rows of a matrix, each multiplied by its row of scales. -/
abbrev scale4 (x : FVec F (M2 128 128) .bf16) (row : (c : ℕ) → c < 4 → Prog (Op F) (IVec (M2 1 128) 32)) : Prog (Op F) (FVec F (M2 128 128) .bf16) := do
  let w0 ← row 0 (by decide)
  let w1 ← row 1 (by decide)
  let w2 ← row 2 (by decide)
  let w3 ← row 3 (by decide)
  pure (concatenate (M2 128 128) 0
    [⟨M2 32 128, mulf (extractStridedSlice (M2 32 128) ![0, 0] x (by decide)) (scaleRow w0)⟩,
     ⟨M2 32 128, mulf (extractStridedSlice (M2 32 128) ![32, 0] x (by decide)) (scaleRow w1)⟩,
     ⟨M2 32 128, mulf (extractStridedSlice (M2 32 128) ![64, 0] x (by decide)) (scaleRow w2)⟩,
     ⟨M2 32 128, mulf (extractStridedSlice (M2 32 128) ![96, 0] x (by decide)) (scaleRow w3)⟩]
    (by decide : Shape.Concatenates [M2 32 128, M2 32 128, M2 32 128, M2 32 128] (M2 128 128) 0))

/-- The words of one query head's scales. -/
abbrev headWords (h : ℕ) (hh : h < 7) : Prog (Op F) PUnit := do
  let x ← ld .qs ![0, h, 0, 0] ![1, 1, 4, 640] (inb4 (by decide) (by omega) (by decide) (by decide)) (by decide)
  st .qsw ![h, 0, 0] ![1, 4, 640] (inb3 (by omega) (by decide) (by decide)) (by decide) (.inl rfl)
    (shapeCast (M3 1 4 640) (words (M2 4 640) (shapeCast (M2 4 640) (x : IVec (M4 1 1 4 640) 8) (by decide))) (by decide))

/-- The words of the key scales and of the value scales. -/
abbrev kvWords : Prog (Op F) PUnit := do
  let x ← ld .ks ![0, 0, 0, 0] ![1, 1, 4, 640] (by decide) (by decide)
  st .ksw ![0, 0] ![4, 640] (by decide) (by decide) (.inl rfl)
    (shapeCast (M2 4 640) (words (M2 4 640) (shapeCast (M2 4 640) (x : IVec (M4 1 1 4 640) 8) (by decide))) rfl)
  let y ← ld .vs ![0, 0, 0, 0] ![1, 1, 20, 128] (by decide) (by decide)
  st .vsw ![0, 0] ![20, 128] (by decide) (by decide) (.inl rfl)
    (shapeCast (M2 20 128) (words (M2 20 128) (shapeCast (M2 20 128) (y : IVec (M4 1 1 20 128) 8) (by decide))) rfl)

/-! ## Keys and values decoded -/

/-- 128 keys decoded. -/
abbrev keyTile (t : ℕ) (ht : t < 5) : Prog (Op F) PUnit := do
  let x ← ld .k ![0, 0, 128 * t, 0] ![1, 1, 128, 128] (inb4 (by decide) (by decide) (by omega) (by decide)) (by decide)
  let y ← scale4 (transpose (M2 128 128) [1, 0] (extf .bf16 (shapeCast (M2 128 128) (x : FVec F (M4 1 1 128 128) .fp8e4m3) (by decide)) (by decide)) (by decide))
    (fun c hc => ld .ksw ![c, 128 * t] ![1, 128] (inb2 (by omega) (by omega)) (by decide))
  st .kbf ![128 * t, 0] ![128, 128] (inb2 (by omega) (by decide)) (by decide) (.inr (packed2 _ (by omega) (by decide)))
    (shapeCast (M2 128 128) (transpose (M2 128 128) [1, 0] y (by decide)) rfl)

/-- 128 values decoded, stored transposed. -/
abbrev valueTile (t : ℕ) (ht : t < 5) : Prog (Op F) PUnit := do
  let x ← ld .v ![0, 0, 128 * t, 0] ![1, 1, 128, 128] (inb4 (by decide) (by decide) (by omega) (by decide)) (by decide)
  let y ← scale4 (extf .bf16 (shapeCast (M2 128 128) (x : FVec F (M4 1 1 128 128) .fp8e4m3) (by decide)) (by decide))
    (fun c hc => ld .vsw ![4 * t + c, 0] ![1, 128] (inb2 (by omega) (by omega)) (by decide))
  st .vt ![0, 128 * t] ![128, 128] (inb2 (by decide) (by omega)) (by decide)
    (.inr (packed2 _ (by decide) (by decide)))
    (shapeCast (M2 128 128) (transpose (M2 128 128) [1, 0] y (by decide)) rfl)

/-! ## One query tile -/

/-- 128 queries of one head decoded, transposed. -/
abbrev queryTile (qi : ℕ) (hq : qi < 5) (h : ℕ) (hh : h < 7) : Prog (Op F) (FVec F (M2 128 128) .bf16) := do
  let x ← ld .q ![0, h, 128 * qi, 0] ![1, 1, 128, 128] (inb4 (by decide) (by omega) (by omega) (by decide)) (by decide)
  scale4 (transpose (M2 128 128) [1, 0] (extf .bf16 (shapeCast (M2 128 128) (x : FVec F (M4 1 1 128 128) .fp8e4m3) (by decide)) (by decide)) (by decide))
    (fun c hc => Prog.lift (.loadIn .qsw (Rect.unit ![h, 0, 0] ![1, 4, 640] (inb3 (by omega) (by decide) (by decide))) (fun _ => rfl) (M2 4 640) squeezes4
      (Rect.unit (s := M2 4 640) ![c, 128 * qi] ![1, 128] (inb2 (by omega) (by omega))).toLoadRect (pos2 (a := 1) (b := 128) (by decide) (by decide))))

/-- The number of keys a query tile sees, of their blocks, and of those blocks rounded up to eight. -/
abbrev nk (qi : ℕ) : ℕ := 128 * (qi + 1)
abbrev nb (qi : ℕ) : ℕ := 4 * (qi + 1)
abbrev nbp (qi : ℕ) : ℕ := 8 * ((qi + 2) / 2)

theorem nbp_pos (qi : ℕ) : 0 < nbp qi := by unfold nbp; omega
theorem nbp_le {qi : ℕ} (hq : qi < 5) : nbp qi ≤ 24 := by unfold nbp; omega
theorem nb_le_nbp (qi : ℕ) : nb qi ≤ nbp qi := by unfold nb nbp; omega

section Column

variable (cexp : F .f32) (qi : ℕ) (W : ℕ) (c : ℕ)

/-- The scores of block `b` as the kernel keeps them: those of later keys replaced by minus infinity. -/
abbrev masked (hW : 128 * c + 128 ≤ W) (s : FVec F (M2 (nk qi) W) .f32) (b : ℕ) (hb : b < nb qi) : FVec F (M2 32 128) .f32 :=
  if 128 * qi ≤ 32 * b then
    select (cmpi .sle (addi (iota .tc (M2 32 128) 32 [0] (by decide)) (broadcast (M2 32 128) (BitVec.ofNat 32 (32 * b - 128 * qi))))
        (iota .tc (M2 32 128) 32 [1] (by decide)))
      (extractStridedSlice (M2 32 128) ![32 * b, 128 * c] s (slices2 (by simp only [nk, nb] at *; omega) hW))
      (broadcast (M2 32 128) (Scalar.ofBits .f32 0xFF800000#32))
  else extractStridedSlice (M2 32 128) ![32 * b, 128 * c] s (slices2 (by simp only [nk, nb] at *; omega) hW)

theorem slab_in {b : ℕ} (hb : b < 25) : ∀ a : Fin 2, (![b, 0] : Fin 2 → ℕ) a + (![25, 1] : Fin 2 → ℕ) a * ((![8, 128] : Fin 2 → ℕ) a - 1) < (M2 200 128).size a :=
  fun a => by
    fin_cases a
    · show b + 25 * (8 - 1) < 200
      omega
    · show 0 + 1 * (128 - 1) < 128
      decide

/-- Where the partial maxima of block `b` lie in the slab: eight rows, 25 apart. -/
abbrev slabRect (b : ℕ) (hb : b < 25) : LoadRect (M2 200 128) :=
  ⟨![b, 0], ![8, 128], ![25, 1], fun a => .inr (slab_in hb a)⟩

/-- Column `c`, first sweep: block `b` of the scores kept, with the maxima of its four groups of eight rows. -/
abbrev sweep1 (hq : qi < 5) (hc : c < 2) (hW : 128 * c + 128 ≤ W) (s : FVec F (M2 (nk qi) W) .f32) (b : ℕ) (hb : b < nb qi) (_ : PUnit) : Prog (Op F) PUnit := do
  st .s ![c, 32 * b, 0] ![1, 32, 128] (inb3 (by omega) (by simp only [nb] at hb; omega) (by decide)) (by decide) (.inl rfl)
    (shapeCast (M3 1 32 128) (masked qi W c hW s b hb) (by decide))
  let _x ← Prog.lift (.loadIn .slab (Rect.unit ![c, 0, 0] ![1, 200, 128] (inb3 (by omega) (by decide) (by decide))) (fun _ => rfl) (M2 200 128) squeezes200
    (slabRect b (by simp only [nb] at hb; omega)) (pos2 (a := 8) (b := 128) (by decide) (by decide)))
  Prog.lift (.storeIn .slab (Rect.unit ![c, 0, 0] ![1, 200, 128] (inb3 (by omega) (by decide) (by decide))) (fun _ => rfl) (M2 200 128) squeezes200
    ⟨slabRect b (by simp only [nb] at hb; omega), (by decide : ∀ a : Fin 2, 0 < (![25, 1] : Fin 2 → ℕ) a)⟩
    (shapeCast (M2 8 128) (multiReduction .maximumf [0] (M2 8 128) (shapeCast (M3 4 8 128) (masked qi W c hW s b hb) (by decide)) 0xFF800000#32 (by decide) (.inl rfl) rfl) rfl)
    (pos2 (a := 8) (b := 128) (by decide) (by decide)) rfl)

/-- Eight rows of partial maxima combined into one maximum per block. -/
abbrev blockMax (hq : qi < 5) (hc : c < 2) : Prog (Op F) (FVec F (M2 (nbp qi) 128) .f32) := do
  let x ← ld .slab ![c, 0, 0] ![1, nbp qi, 128] (inb3 (by omega) (by have := nbp_le hq; omega) (by decide)) (pos3 (by decide) (nbp_pos qi) (by decide))
  loop 7 (fun t ht acc => do
      let y ← ld .slab ![c, 25 * (t + 1), 0] ![1, nbp qi, 128] (inb3 (by omega) (by have := nbp_le hq; omega) (by decide))
        (pos3 (by decide) (nbp_pos qi) (by decide))
      pure (maximumf acc (shapeCast (M2 (nbp qi) 128) (y : FVec F (M3 1 (nbp qi) 128) .f32) (casts3 _ _))))
    (shapeCast (M2 (nbp qi) 128) (x : FVec F (M3 1 (nbp qi) 128) .f32) (casts3 _ _))

/-- The rows past the last block replaced by minus infinity. -/
abbrev realMax (bm : FVec F (M2 (nbp qi) 128) .f32) : FVec F (M2 (nbp qi) 128) .f32 :=
  select (cmpi .slt (iota .tc (M2 (nbp qi) 128) 32 [0] (iotas2 _ _)) (broadcast (M2 (nbp qi) 128) (BitVec.ofNat 32 (nb qi)))) bm
    (broadcast (M2 (nbp qi) 128) (Scalar.ofBits .f32 0xFF800000#32))

/-- The maximum of each column, scaled. -/
abbrev colMax (bm : FVec F (M2 (nbp qi) 128) .f32) : FVec F (M2 1 128) .f32 :=
  mulf (shapeCast (M2 1 128) (multiReduction .maximumf [0] (M1 128) bm 0xFF800000#32 (red2 _ _) (.inl rfl) rfl) (casts1 _))
    (broadcast (M2 1 128) cexp)

/-- Column `c`, second sweep: block `b` exponentiated in place and added into the running sums. -/
abbrev sweep2 (hq : qi < 5) (hc : c < 2) (mc : FVec F (M2 1 128) .f32) (b : ℕ) (hb : b < nb qi) (acc : Fin 4 → FVec F (M2 8 128) .f32) :
    Prog (Op F) (Fin 4 → FVec F (M2 8 128) .f32) := do
  let x ← ld .s ![c, 32 * b, 0] ![1, 32, 128] (inb3 (by omega) (by simp only [nb] at hb; omega) (by decide)) (by decide)
  let ex : FVec F (M2 32 128) .f32 := exp2 (subf (mulf (shapeCast (M2 32 128) (x : FVec F (M3 1 32 128) .f32) (by decide)) (broadcast (M2 32 128) cexp))
    (broadcastTo (M2 32 128) mc (by decide)))
  st .s ![c, 32 * b, 0] ![1, 32, 128] (inb3 (by omega) (by simp only [nb] at hb; omega) (by decide)) (by decide) (.inl rfl)
    (shapeCast (M3 1 32 128) ex (by decide))
  pure fun i => addf (acc i) (extractStridedSlice (M2 8 128) ![8 * i.val, 0] ex (slices2 (by omega) (by decide)))

/-- The reciprocal of each column's sum. -/
abbrev recip (acc : Fin 4 → FVec F (M2 8 128) .f32) : FVec F (M2 1 128) .f32 :=
  divf (broadcast (M2 1 128) (Scalar.ofBits .f32 0x3F800000#32))
    (shapeCast (M2 1 128) (multiReduction .add [0] (M1 128) (addf (addf (acc 0) (acc 1)) (addf (acc 2) (acc 3))) 0x00000000#32 (by decide) (.inl rfl) rfl) (by decide))

/-- A block's largest probability over the largest code. -/
abbrev blockTop (bm : FVec F (M2 (nbp qi) 128) .f32) (mc r : FVec F (M2 1 128) .f32) : FVec F (M2 (nbp qi) 128) .f32 :=
  mulf (mulf (exp2 (subf (mulf bm (broadcast (M2 (nbp qi) 128) cexp)) (broadcastTo (M2 (nbp qi) 128) mc (bcast2 _ _)))) (broadcastTo (M2 (nbp qi) 128) r (bcast2 _ _)))
    (broadcast (M2 (nbp qi) 128) (Scalar.ofBits .f32 0x37924925#32))

/-- One halving of the search for an exponent: where `x` is below `thr`, multiply it by `up` and count `k` up by `n`. -/
def halve (s : Shape) (thr up n : BitVec 32) (xk : FVec F s .f32 × IVec s 32) : FVec F s .f32 × IVec s 32 :=
  (select (cmpf .olt xk.1 (broadcast s (Scalar.ofBits .f32 thr))) (mulf xk.1 (broadcast s (Scalar.ofBits .f32 up))) xk.1,
   select (cmpf .olt xk.1 (broadcast s (Scalar.ofBits .f32 thr))) (addi xk.2 (broadcast s n)) xk.2)

/-- The exponent field of a block's scale. -/
abbrev expField (s : Shape) (x : FVec F s .f32) : IVec s 32 :=
  let a := halve s 0x20000000#32 0x5F800000#32 64#32 (x, broadcast s 0#32)
  let b := halve s 0x30000000#32 0x4F800000#32 32#32 a
  let c := halve s 0x38000000#32 0x47800000#32 16#32 b
  let d := halve s 0x3C000000#32 0x43800000#32 8#32 c
  let e := halve s 0x3E000000#32 0x41800000#32 4#32 d
  let f := halve s 0x3F000000#32 0x40800000#32 2#32 e
  select (cmpf .oeq x (broadcast s (Scalar.ofBits .f32 0x00000000#32))) (broadcast s 1056964608#32)
    (shli (subi (broadcast s 127#32)
      (select (cmpf .olt f.1 (broadcast s (Scalar.ofBits .f32 0x3F800000#32))) (addi f.2 (broadcast s 1#32)) f.2)) (broadcast s 23#32))

/-- What a block's exponentials are multiplied by before rounding: the reciprocal sum over the block's scale. -/
abbrev gain (s : Shape) (r : FVec F s .f32) (eb : IVec s 32) : FVec F s .f32 :=
  mulf r (bitcastToFloat .f32 (subi (broadcast s 2122317824#32) eb))
/-- A block's scale as two bf16 words. -/
abbrev scaleWords (s : Shape) (eb : IVec s 32) : IVec s 32 :=
  ori (addi eb (broadcast s 8388608#32)) (shrui (addi eb (broadcast s 8388608#32)) (broadcast s 16#32))

/-- Column `c`, third sweep: block `b` scaled, clipped, rounded to a code, and multiplied by its scale. -/
abbrev sweep3 (hq : qi < 5) (hc : c < 2) (b : ℕ) (hb : b < nb qi) (_ : PUnit) : Prog (Op F) PUnit := do
  let x ← ld .s ![c, 32 * b, 0] ![1, 32, 128] (inb3 (by omega) (by simp only [nb] at hb; omega) (by decide)) (by decide)
  let g ← ld .g ![c, b, 0] ![1, 1, 128] (inb3 (by omega) (by simp only [nb] at hb; omega) (by decide)) (by decide)
  let w ← ld .w ![c, b, 0] ![1, 1, 128] (inb3 (by omega) (by simp only [nb] at hb; omega) (by decide)) (by decide)
  st .p ![c, 32 * b, 0] ![1, 32, 128] (inb3 (by omega) (by simp only [nb] at hb; omega) (by decide)) (by decide) (.inr (packed3 _ (by omega) (by decide)))
    (shapeCast (M3 1 32 128)
      (mulf
        (extf .bf16 (truncf .fp8e5m2
          (minimumf (broadcast (M2 32 128) (Scalar.ofBits .f32 0x47600000#32))
            (maximumf (broadcast (M2 32 128) (Scalar.ofBits .f32 0xC7600000#32))
              (mulf (shapeCast (M2 32 128) (x : FVec F (M3 1 32 128) .f32) (by decide))
                (broadcastTo (M2 32 128) (shapeCast (M2 1 128) (shapeCast (M2 1 128) (g : FVec F (M3 1 1 128) .f32) (by decide)) rfl) (by decide)))))
          (by decide)) (by decide))
        (scaleRow (shapeCast (M2 1 128) (w : IVec (M3 1 1 128) 32) (by decide)))) (by decide))

/-- One column: softmax over the keys of one head for 128 queries, quantised block by block. -/
abbrev column (hq : qi < 5) (hc : c < 2) (hW : 128 * c + 128 ≤ W) (s : FVec F (M2 (nk qi) W) .f32) : Prog (Op F) PUnit := do
  loop (nb qi) (sweep1 qi W c hq hc hW s) ⟨⟩
  let bm0 ← blockMax qi c hq hc
  let bm := realMax qi bm0
  let mc := colMax cexp qi bm
  let acc ← loop (nb qi) (sweep2 cexp qi c hq hc mc) (fun _ => broadcast (M2 8 128) (Scalar.ofBits .f32 0x00000000#32))
  let r := recip acc
  let eb := expField (M2 (nbp qi) 128) (blockTop cexp qi bm mc r)
  st .g ![c, 0, 0] ![1, nbp qi, 128] (inb3 (by omega) (by have := nbp_le hq; omega) (by decide)) (pos3 (by decide) (nbp_pos qi) (by decide)) (.inl rfl)
    (shapeCast (M3 1 (nbp qi) 128) (gain (M2 (nbp qi) 128) (broadcastTo (M2 (nbp qi) 128) r (bcast2 _ _)) eb) (casts2 _ _))
  st .w ![c, 0, 0] ![1, nbp qi, 128] (inb3 (by omega) (by have := nbp_le hq; omega) (by decide)) (pos3 (by decide) (nbp_pos qi) (by decide)) (.inl rfl)
    (shapeCast (M3 1 (nbp qi) 128) (scaleWords (M2 (nbp qi) 128) eb) (casts2 _ _))
  loop (nb qi) (sweep3 qi c hq hc) ⟨⟩

end Column

/-- One query tile of two heads `h` and `h + 1`. -/
abbrev pairTile (cexp : F .f32) (qi : ℕ) (hq : qi < 5) (h : ℕ) (hh : h + 1 < 7) : Prog (Op F) PUnit := do
  let qa ← queryTile qi hq h (by omega)
  let qb ← queryTile qi hq (h + 1) hh
  let kb ← ld .kbf ![0, 0] ![nk qi, 128] (inb2 (by simp only [nk]; omega) (by decide)) (pos2 (by simp only [nk]; omega) (by decide))
  let s : FVec F (M2 (nk qi) 256) .f32 := matmul (DotDims.plain (nk qi) 128 256) none (kb : FVec F (M2 (nk qi) 128) .bf16)
    (concatenate (M2 128 256) 1 [⟨M2 128 128, qa⟩, ⟨M2 128 128, qb⟩] (cat2 128)) (constant (M2 (nk qi) 256) .f32 0x00000000#32)
  column cexp qi 256 0 hq (by decide) (by decide) s
  column cexp qi 256 1 hq (by decide) (by decide) s
  let pa ← ld .p ![0, 0, 0] ![1, nk qi, 128] (inb3 (by decide) (by simp only [nk]; omega) (by decide)) (pos3 (by decide) (by simp only [nk]; omega) (by decide))
  let pb ← ld .p ![1, 0, 0] ![1, nk qi, 128] (inb3 (by decide) (by simp only [nk]; omega) (by decide)) (pos3 (by decide) (by simp only [nk]; omega) (by decide))
  let vt ← ld .vt ![0, 0] ![128, nk qi] (inb2 (by decide) (by simp only [nk]; omega)) (pos2 (by decide) (by simp only [nk]; omega))
  let o : FVec F (M2 128 256) .bf16 := truncf .bf16 (matmul (DotDims.plain 128 (nk qi) 256) none (vt : FVec F (M2 128 (nk qi)) .bf16)
    (concatenate (M2 (nk qi) 256) 1 [⟨M2 (nk qi) 128, shapeCast (M2 (nk qi) 128) (pa : FVec F (M3 1 (nk qi) 128) .bf16) (casts3 _ _)⟩,
      ⟨M2 (nk qi) 128, shapeCast (M2 (nk qi) 128) (pb : FVec F (M3 1 (nk qi) 128) .bf16) (casts3 _ _)⟩] (cat2 _))
    (constant (M2 128 256) .f32 0x00000000#32)) (by decide)
  st .o ![0, 128 * qi, 128 * h] ![1, 128, 128] (inb3 (by decide) (by omega) (by omega)) (by decide) (.inr (packed3 _ (by omega) (by decide)))
    (shapeCast (M3 1 128 128) (transpose (M2 128 128) [1, 0] (extractStridedSlice (M2 128 128) ![0, 0] o (by decide)) (by decide)) (by decide))
  st .o ![0, 128 * qi, 128 * (h + 1)] ![1, 128, 128] (inb3 (by decide) (by omega) (by omega)) (by decide) (.inr (packed3 _ (by omega) (by decide)))
    (shapeCast (M3 1 128 128) (transpose (M2 128 128) [1, 0] (extractStridedSlice (M2 128 128) ![0, 128] o (by decide)) (by decide)) (by decide))

/-- One query tile of one head. -/
abbrev soloTile (cexp : F .f32) (qi : ℕ) (hq : qi < 5) (h : ℕ) (hh : h < 7) : Prog (Op F) PUnit := do
  let qa ← queryTile qi hq h hh
  let kb ← ld .kbf ![0, 0] ![nk qi, 128] (inb2 (by simp only [nk]; omega) (by decide)) (pos2 (by simp only [nk]; omega) (by decide))
  let s : FVec F (M2 (nk qi) 128) .f32 := matmul (DotDims.plain (nk qi) 128 128) none (kb : FVec F (M2 (nk qi) 128) .bf16)
    qa (constant (M2 (nk qi) 128) .f32 0x00000000#32)
  column cexp qi 128 0 hq (by decide) (by decide) s
  let pa ← ld .p ![0, 0, 0] ![1, nk qi, 128] (inb3 (by decide) (by simp only [nk]; omega) (by decide)) (pos3 (by decide) (by simp only [nk]; omega) (by decide))
  let vt ← ld .vt ![0, 0] ![128, nk qi] (inb2 (by decide) (by simp only [nk]; omega)) (pos2 (by decide) (by simp only [nk]; omega))
  let o : FVec F (M2 128 128) .bf16 := truncf .bf16 (matmul (DotDims.plain 128 (nk qi) 128) none (vt : FVec F (M2 128 (nk qi)) .bf16)
    (shapeCast (M2 (nk qi) 128) (pa : FVec F (M3 1 (nk qi) 128) .bf16) (casts3 _ _))
    (constant (M2 128 128) .f32 0x00000000#32)) (by decide)
  st .o ![0, 128 * qi, 128 * h] ![1, 128, 128] (inb3 (by decide) (by omega) (by omega)) (by decide) (.inr (packed3 _ (by omega) (by decide)))
    (shapeCast (M3 1 128 128) (transpose (M2 128 128) [1, 0] o (by decide)) (by decide))

/-! ## The body -/

/-- What comes before the query tiles: the scale words, the keys and the values decoded. -/
def prelude : Prog (Op F) PUnit := do
  loop 7 (fun h hh _ => headWords h hh) ⟨⟩
  kvWords
  loop 5 (fun t ht _ => do keyTile t ht; valueTile t ht) ⟨⟩

/-- Unit `u` of the query tiles: tile `u / 4`, heads `2 (u % 4)` and the next, or the seventh head alone. -/
def unitTile (cexp : F .f32) (u : ℕ) (hu : u < 20) : Prog (Op F) PUnit :=
  if h : u % 4 < 3 then pairTile cexp (u / 4) (by omega) (2 * (u % 4)) (by omega)
  else soloTile cexp (u / 4) (by omega) 6 (by decide)

/-- The kernel body. -/
def body (cexp : F .f32) : Prog (Op F) PUnit :=
  prelude.bind fun _ => loop 20 (fun u hu _ => unitTile cexp u hu) ⟨⟩

end Cert.Mx

end
-- ==== Proof.Eval.lean ====
module

public import proofs.«01_k».proof.Proof.Lang
public import Idealize.ShloMosaic.Lib.Memref
public import Idealize.ShloMosaic.Rules.Step
public import Idealize.ShloMosaic.Lib.Tactic
public import Idealize.ShloMosaic.Lib.Pipeline.FrameBody

@[expose] public section

noncomputable section

/-!
# Running a program over names on plain functions

`Mem` gives each buffer its contents. `ev` runs a program over names on them. `sound` says that the
program on real memory which it stands for does the same to the buffers a core owns.
-/

namespace Cert.Mx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

instance : Fintype Slot where
  elems := {.q, .qs, .k, .ks, .v, .vs, .o, .kbf, .vt, .qsw, .ksw, .vsw, .s, .p, .slab, .g, .w}
  complete := fun a => by cases a <;> decide

/-- The contents of every buffer. -/
abbrev Mem (F : FTy → Type) : Type := (a : Slot) → a.shp.Idx → Elt F a.elt

/-- `X` with `w j` written at each `g j`. -/
def put {I J A : Type} (g : J → I) (w : J → A) (X : I → A) : I → A := by
  classical exact fun i => if h : ∃ j, g j = i then w h.choose else X i

theorem put_at {I J A : Type} {g : J → I} (hg : Function.Injective g) (w : J → A) (X : I → A) (j : J) : put g w X (g j) = w j := by
  unfold put
  have h : ∃ j', g j' = g j := ⟨j, rfl⟩
  rw [dif_pos h, hg h.choose_spec]

theorem put_off {I J A : Type} {g : J → I} (w : J → A) (X : I → A) {i : I} (h : ∀ j, g j ≠ i) : put g w X i = X i := by
  unfold put
  exact dif_neg fun ⟨j, hj⟩ => h j hj

variable {F : FTy → Type} {nD : Nat} {τ : Topo} {sig : RefSig} {Λ : Labels}

/-- Where the element `j` of a rectangle `r` of the matrix `t`, itself the rectangle `u` of a buffer, lies in that buffer. -/
abbrev inner {s : Shape} (u : Rect s) {t : Shape} (ht : u.shape.Squeezes t) (r : LoadRect t) (j : r.shape.Idx) : s.Idx :=
  u.emb (Shape.reshapeEquiv ht.numel_eq (r.idx j))

/-- What an operation returns and the contents it leaves. -/
def Op.ev {β : Type} : Op F β → Mem F → β × Mem F
  | .load a r _, σ => (fun j => σ a (r.idx j), σ)
  | .store a r w _ _, σ => (⟨⟩, Function.update σ a (put r.emb w (σ a)))
  | .loadIn a u _ _ ht r _, σ => (fun j => σ a (inner u ht r j), σ)
  | .storeIn a u _ _ ht r w _ _, σ => (⟨⟩, Function.update σ a (put (inner u ht r.toLoadRect) w (σ a)))

/-- What a program returns and the contents it leaves. -/
def ev {α : Type} : Prog (Op F) α → Mem F → α × Mem F
  | .ret a, σ => (a, σ)
  | .op e k, σ => ev (k (e.ev σ).1) (e.ev σ).2

theorem ev_bind {α β : Type} (p : Prog (Op F) α) (k : α → Prog (Op F) β) (σ : Mem F) :
    ev (p.bind k) σ = ev (k (ev p σ).1) (ev p σ).2 := by
  induction p generalizing σ with
  | ret a => rfl
  | op e f ih => exact ih _ _

/-! ## Soundness -/

theorem read_slice_write {κ : Kind} {sp : Space} {s : Shape} {e : EltTy} {Val : EltTy → Type} (v : View sig κ sp s e) (r : Rect s)
    (f : v.ty.Contents Val) (w : r.shape.Idx → Val e) :
    v.read Val ((v.slice r).write Val f w Finset.univ) = put r.emb w (v.read Val f) := by
  funext i
  by_cases h : ∃ j, r.emb j = i
  · obtain ⟨j, rfl⟩ := h
    rw [put_at r.emb.injective]
    exact View.read_slice_write_emb r f w (Finset.mem_univ j)
  · rw [put_off _ _ (fun j hj => h ⟨j, hj⟩)]
    exact View.read_slice_write_of_not_mem r f w _ (by simpa using h)

theorem read_inner_write {κ : Kind} {sp : Space} {s t : Shape} {e : EltTy} {Val : EltTy → Type} (v : View sig κ sp s e) (u : Rect s)
    (ht : u.shape.Squeezes t) (r : Rect t) (f : v.ty.Contents Val) (w : r.shape.Idx → Val e) :
    v.read Val ((((v.slice u).reshape t ht.numel_eq).slice r).write Val f w Finset.univ) = put (inner u ht r.toLoadRect) w (v.read Val f) := by
  have inj : Function.Injective (inner u ht r.toLoadRect) := fun a b h =>
    r.emb.injective ((Shape.reshapeEquiv ht.numel_eq).injective (u.emb.injective h))
  funext i
  by_cases h : ∃ j, inner u ht r.toLoadRect j = i
  · obtain ⟨j, rfl⟩ := h
    rw [put_at inj, View.read_apply,
      show v.emb (inner u ht r.toLoadRect j) = (((v.slice u).reshape t ht.numel_eq).slice r).emb j from rfl,
      View.write_emb_of_mem _ _ (Finset.mem_univ j), cast_cast, cast_eq]
  · rw [put_off _ _ (fun j hj => h ⟨j, hj⟩), View.read_apply, View.read_apply, View.write_of_not_mem]
    intro hm
    obtain ⟨j, -, hj⟩ := Finset.mem_map.mp hm
    exact h ⟨j, v.emb.injective hj⟩

theorem slice_sub {κ : Kind} {sp : Space} {s : Shape} {e : EltTy} (v : View sig κ sp s e) (r : Rect s) (K : Finset r.shape.Idx) :
    (v.slice r).setOn K ⊆ v.set := fun x hx => by
  obtain ⟨j, -, rfl⟩ := Finset.mem_map.mp hx
  exact v.emb_mem_set (r.emb j)

theorem sub_inner {κ : Kind} {sp : Space} {s t : Shape} {e : EltTy} (v : View sig κ sp s e) (u : Rect s)
    (ht : u.shape.Squeezes t) (K : Finset t.Idx) : ((v.slice u).reshape t ht.numel_eq).setOn K ⊆ v.set := fun x hx => by
  obtain ⟨j, -, rfl⟩ := Finset.mem_map.mp hx
  exact v.emb_mem_set (u.emb (Shape.reshapeEquiv ht.numel_eq j))

theorem sub_inner_slice {κ : Kind} {sp : Space} {s t : Shape} {e : EltTy} (v : View sig κ sp s e) (u : Rect s)
    (ht : u.shape.Squeezes t) (r : Rect t) (K : Finset r.shape.Idx) : (((v.slice u).reshape t ht.numel_eq).slice r).setOn K ⊆ v.set := fun x hx => by
  obtain ⟨j, -, rfl⟩ := Finset.mem_map.mp hx
  exact v.emb_mem_set (u.emb (Shape.reshapeEquiv ht.numel_eq (r.emb j)))

section Wp

variable {Ix : Type} [DecidableEq Ix] {Name : Type} [DecidableEq Name] {U : Type} [URA U] {Lvl : Type} [Preorder Lvl]

local notation "𝕄" => MT nD τ sig Ix (Elt F) Name U Lvl

/-- Core `c` owns every buffer, at the contents `σ`. -/
def held (M : Refs sig) (c : Dev nD) (σ : Mem F) : sProp 𝕄 :=
  bigSep Finset.univ fun a : Slot => owns (c : Thread nD τ) (M.m a) fullShare (σ a)

theorem held_take (M : Refs sig) (c : Dev nD) (σ : Mem F) (a : Slot) :
    (held M c σ : sProp 𝕄) = iprop(owns (c : Thread nD τ) (M.m a) fullShare (σ a)
      ∗ bigSep (Finset.univ.erase a) fun b : Slot => owns (c : Thread nD τ) (M.m b) fullShare (σ b)) :=
  bigSep_erase (Finset.mem_univ a)

theorem held_put (M : Refs sig) (c : Dev nD) (σ : Mem F) (a : Slot) (X : a.shp.Idx → Elt F a.elt) :
    iprop(owns (c : Thread nD τ) (M.m a) fullShare X
      ∗ bigSep (Finset.univ.erase a) fun b : Slot => owns (c : Thread nD τ) (M.m b) fullShare (σ b)) =
    (held M c (Function.update σ a X) : sProp 𝕄) := by
  rw [held_take M c _ a, Function.update_self]
  congr 1
  exact bigSep_congr fun b hb => by rw [Function.update_of_ne (Finset.ne_of_mem_erase hb)]

variable (defs : Defs nD τ sig (Elt F) Λ) (𝒱 : Variants) (E : Set Name)

theorem op_sound (M : Refs sig) (c : Dev nD) {α β : Type} (e : Op F β) (σ : Mem F) (k : β → Prog (TpuEff nD τ sig (Elt F) Λ .tc) α)
    (Q : α → sProp 𝕄) :
    iprop(held M c σ ∗ (held M c (e.ev σ).2 -∗ wp frame (wpE defs 𝒱 c none) E (k (e.ev σ).1) Q))
      ⊢ wp frame (wpE defs 𝒱 c none) E (.op (e.den M) k) Q := by
  cases e with
  | load a r h =>
    rw [held_take M c σ a]
    unfold owns
    iintro ⟨⟨⟨%f, %hf, H⟩, R⟩, K⟩
    iapply (wp_load 𝒱 (c : Thread nD τ) none E (m := M.m a) (r := r) (S := (M.m a).view.set) (f := f) (Finset.map_subset_map.mpr (Finset.subset_univ _))) $$ H
    iintro H
    rw [show (M.m a).view.readAt (Elt F) r f = (Op.ev (Op.load a r h) σ).1 from funext fun j => by
      rw [View.readAt_apply, hf]; rfl]
    iapply K
    rw [show (Op.ev (Op.load a r h) σ).2 = σ from rfl, held_take M c σ a]
    unfold owns
    isplitl [H]
    · iexists f; isplitr; · ipureintro; exact hf
      iexact H
    iexact R
  | store a r w h hx =>
    rw [held_take M c σ a]
    unfold owns
    iintro ⟨⟨⟨%f, %hf, H⟩, R⟩, K⟩
    iapply (wp_store 𝒱 (c : Thread nD τ) none E (m := M.m a) (r := r) (S := (M.m a).view.set) (slice_sub _ r _)) $$ H
    iintro H
    iapply K
    rw [show (Op.ev (Op.store a r w h hx) σ).2 = Function.update σ a (put r.emb w (σ a)) from rfl, ← held_put]
    isplitl [H]
    · unfold owns
      iexists _; isplitr
      swap; · iexact H
      ipureintro
      rw [read_slice_write, hf]
    iexact R
  | loadIn a u hu t ht r h =>
    rw [held_take M c σ a]
    unfold owns
    iintro ⟨⟨⟨%f, %hf, H⟩, R⟩, K⟩
    iapply (wp_load 𝒱 (c : Thread nD τ) none E (m := ((M.m a).slice u hu).squeeze t ht) (r := r) (S := (M.m a).view.set) (f := f) (sub_inner _ u ht _)) $$ H
    iintro H
    rw [show (((M.m a).slice u hu).squeeze t ht).view.readAt (Elt F) r f = (Op.ev (Op.loadIn a u hu t ht r h) σ).1 from funext fun j => by
      show (M.m a).view.read (Elt F) f (inner u ht r j) = _
      rw [hf]; rfl]
    iapply K
    rw [show (Op.ev (Op.loadIn a u hu t ht r h) σ).2 = σ from rfl, held_take M c σ a]
    unfold owns
    isplitl [H]
    · iexists f; isplitr; · ipureintro; exact hf
      iexact H
    iexact R
  | storeIn a u hu t ht r w h hx =>
    rw [held_take M c σ a]
    unfold owns
    iintro ⟨⟨⟨%f, %hf, H⟩, R⟩, K⟩
    iapply (wp_store 𝒱 (c : Thread nD τ) none E (m := ((M.m a).slice u hu).squeeze t ht) (r := r) (S := (M.m a).view.set) (f := f) (sub_inner_slice _ u ht r _)) $$ H
    iintro H
    iapply K
    rw [show (Op.ev (Op.storeIn a u hu t ht r w h hx) σ).2 = Function.update σ a (put (inner u ht r.toLoadRect) w (σ a)) from rfl, ← held_put]
    isplitl [H]
    · unfold owns
      iexists _; isplitr
      swap; · iexact H
      ipureintro
      exact (read_inner_write (M.m a).view u ht r f w).trans (by rw [hf])
    iexact R

/-- A program over names does to the buffers a core owns what `ev` says. -/
theorem sound (M : Refs sig) (c : Dev nD) {α : Type} (p : Prog (Op F) α) (σ : Mem F) (Q : α → sProp 𝕄) :
    iprop(held M c σ ∗ (held M c (ev p σ).2 -∗ Q (ev p σ).1)) ⊢ wp frame (wpE defs 𝒱 c none) E (den M p) Q := by
  induction p generalizing σ with
  | ret a =>
    rw [show ev (Prog.ret a) σ = (a, σ) from rfl]
    show _ ⊢ iprop(|={E}[frame]=> Q a)
    iintro ⟨H, K⟩
    imodintro
    ispecialize K $$ H
    iexact K
  | op e f ih =>
    refine BIBase.Entails.trans ?_ (op_sound defs 𝒱 E M c e σ (fun x => den M (f x)) Q)
    iintro ⟨H, K⟩
    isplitl [H]; · iexact H
    iintro H
    iapply (ih _ _)
    isplitl [H]; · iexact H
    iexact K

end Wp

end Cert.Mx

end
-- ==== Proof.Keep.lean ====
module

public import proofs.«01_k».proof.Proof.Tile
public import proofs.«01_k».proof.Proof.Eval

@[expose] public section

noncomputable section

/-!
# Which buffers a program stores to

`Avoids A p` says that no store of `p` names a buffer of `A`; then `p` leaves the contents of those
buffers. The kernel body avoids its six input blocks.
-/

namespace Cert.Mx

open Idealize.ShloMosaic Idealize.SL.Sem

variable {F : FTy → Type}

/-- The operation stores to no buffer of `A`. -/
def Op.avoids (A : Slot → Prop) : {β : Type} → Op F β → Prop
  | _, .load .. => True
  | _, .store a .. => ¬A a
  | _, .loadIn .. => True
  | _, .storeIn a .. => ¬A a

/-- No operation of the program stores to a buffer of `A`. -/
def Avoids (A : Slot → Prop) {α : Type} : Prog (Op F) α → Prop
  | .ret _ => True
  | .op e k => e.avoids A ∧ ∀ x, Avoids A (k x)

variable {A : Slot → Prop}

theorem Op.ev_of_avoids {β : Type} (e : Op F β) (h : e.avoids A) (σ : Mem F) {a : Slot} (ha : A a) : (e.ev σ).2 a = σ a := by
  cases e with
  | load => rfl
  | loadIn => rfl
  | store b => exact Function.update_of_ne (fun (e : a = b) => h (e ▸ ha)) _ _
  | storeIn b => exact Function.update_of_ne (fun (e : a = b) => h (e ▸ ha)) _ _

theorem ev_of_avoids {α : Type} (p : Prog (Op F) α) (h : Avoids A p) (σ : Mem F) {a : Slot} (ha : A a) : (ev p σ).2 a = σ a := by
  induction p generalizing σ with
  | ret => rfl
  | op e k ih => exact (ih _ (h.2 _) _).trans (e.ev_of_avoids h.1 σ ha)

theorem avoids_bind {α β : Type} {p : Prog (Op F) α} {k : α → Prog (Op F) β} (hp : Avoids A p) (hk : ∀ x, Avoids A (k x)) : Avoids A (p.bind k) := by
  induction p with
  | ret a => exact hk a
  | op e f ih => exact ⟨hp.1, fun x => ih x (hp.2 x)⟩

theorem avoids_bind' {α β : Type} {p : Prog (Op F) α} {k : α → Prog (Op F) β} (hp : Avoids A p) (hk : ∀ x, Avoids A (k x)) : Avoids A (p >>= k) :=
  avoids_bind hp hk

theorem avoids_loop {X : Type} {n : ℕ} {f : (i : ℕ) → i < n → X → Prog (Op F) X} (h : ∀ i hi a, Avoids A (f i hi a)) (a : X) : Avoids A (loop n f a) := by
  induction n with
  | zero => trivial
  | succ n ih => exact avoids_bind (ih fun i hi a => h i _ a) fun x => h n _ x

theorem avoids_pure {α : Type} (x : α) : Avoids A (pure x : Prog (Op F) α) := trivial

theorem avoids_lift {β : Type} {e : Op F β} (h : e.avoids A) : Avoids A (Prog.lift e) := ⟨h, fun _ => trivial⟩

variable [FloatOps F]

theorem avoids_ld (a : Slot) (off size inb h) : Avoids (F := F) A (ld a off size inb h) := avoids_lift trivial
theorem avoids_st (a : Slot) (off size inb h hx w) (ha : ¬A a) : Avoids (F := F) A (st a off size inb h hx w) :=
  avoids_bind' (avoids_lift trivial) fun _ => avoids_lift ha

theorem avoids_in (a : Slot) (u hu t ht r h) : Avoids (F := F) A (Prog.lift (.loadIn a u hu t ht r h)) := avoids_lift trivial
theorem avoids_sin (a : Slot) (u hu t ht r w h hx) (ha : ¬A a) : Avoids (F := F) A (Prog.lift (.storeIn a u hu t ht r w h hx)) := avoids_lift ha

/-- The buffers the body only reads. -/
def Slot.input : Slot → Prop
  | .q | .qs | .k | .ks | .v | .vs => True
  | _ => False

theorem scale4_avoids {x : FVec F (M2 128 128) .bf16} {row : (c : ℕ) → c < 4 → Prog (Op F) (IVec (M2 1 128) 32)}
    (h : ∀ c hc, Avoids A (row c hc)) : Avoids A (scale4 x row) :=
  avoids_bind' (h _ _) fun _ => avoids_bind' (h _ _) fun _ => avoids_bind' (h _ _) fun _ => avoids_bind' (h _ _) fun _ => avoids_pure _

theorem headWords_avoids (h : ℕ) (hh : h < 7) : Avoids (F := F) Slot.input (headWords h hh) :=
  avoids_bind' (avoids_ld ..) fun _ => avoids_st _ _ _ _ _ _ _ not_false

theorem kvWords_avoids : Avoids (F := F) Slot.input kvWords :=
  avoids_bind' (avoids_ld ..) fun _ => avoids_bind' (avoids_st _ _ _ _ _ _ _ not_false) fun _ =>
    avoids_bind' (avoids_ld ..) fun _ => avoids_st _ _ _ _ _ _ _ not_false

theorem keyTile_avoids (t : ℕ) (ht : t < 5) : Avoids (F := F) Slot.input (keyTile t ht) :=
  avoids_bind' (avoids_ld ..) fun _ => avoids_bind' (scale4_avoids fun _ _ => avoids_ld ..) fun _ => avoids_st _ _ _ _ _ _ _ not_false

theorem valueTile_avoids (t : ℕ) (ht : t < 5) : Avoids (F := F) Slot.input (valueTile t ht) :=
  avoids_bind' (avoids_ld ..) fun _ => avoids_bind' (scale4_avoids fun _ _ => avoids_ld ..) fun _ => avoids_st _ _ _ _ _ _ _ not_false

theorem queryTile_avoids (qi : ℕ) (hq : qi < 5) (h : ℕ) (hh : h < 7) : Avoids (F := F) Slot.input (queryTile qi hq h hh) :=
  avoids_bind' (avoids_ld ..) fun _ => scale4_avoids fun _ _ => avoids_in ..

section

variable (cexp : F .f32) (qi W c : ℕ) (hq : qi < 5) (hc : c < 2)

theorem sweep1_avoids (hs : ¬A .s) (hl : ¬A .slab) (hW s b hb a) : Avoids (F := F) A (sweep1 qi W c hq hc hW s b hb a) :=
  avoids_bind' (avoids_st _ _ _ _ _ _ _ hs) fun _ => avoids_bind' (avoids_in ..) fun _ => avoids_sin _ _ _ _ _ _ _ _ _ hl

theorem blockMax_avoids : Avoids (F := F) A (blockMax qi c hq hc) :=
  avoids_bind' (avoids_ld ..) fun _ => avoids_loop (fun _ _ _ => avoids_bind' (avoids_ld ..) fun _ => avoids_pure _) _

theorem sweep2_avoids (hs : ¬A .s) (mc b hb a) : Avoids (F := F) A (sweep2 cexp qi c hq hc mc b hb a) :=
  avoids_bind' (avoids_ld ..) fun _ => avoids_bind' (avoids_st _ _ _ _ _ _ _ hs) fun _ => avoids_pure _

theorem sweep3_avoids (hp : ¬A .p) (b hb a) : Avoids (F := F) A (sweep3 qi c hq hc b hb a) :=
  avoids_bind' (avoids_ld ..) fun _ => avoids_bind' (avoids_ld ..) fun _ => avoids_bind' (avoids_ld ..) fun _ => avoids_st _ _ _ _ _ _ _ hp

theorem column_avoids (hs : ¬A .s) (hp : ¬A .p) (hl : ¬A .slab) (hg : ¬A .g) (hw : ¬A .w) (hW s) : Avoids A (column cexp qi W c hq hc hW s) :=
  avoids_bind' (avoids_loop (fun b hb a => sweep1_avoids qi W c hq hc hs hl hW s b hb a) _) fun _ => avoids_bind' (blockMax_avoids qi c hq hc) fun _ =>
    avoids_bind' (avoids_loop (fun b hb a => sweep2_avoids cexp qi c hq hc hs _ b hb a) _) fun _ =>
    avoids_bind' (avoids_st _ _ _ _ _ _ _ hg) fun _ => avoids_bind' (avoids_st _ _ _ _ _ _ _ hw) fun _ =>
    avoids_loop (fun b hb a => sweep3_avoids qi c hq hc hp b hb a) _

end

theorem pairTile_avoids (cexp : F .f32) (qi hq h hh) : Avoids Slot.input (pairTile cexp qi hq h hh) :=
  avoids_bind' (queryTile_avoids ..) fun _ => avoids_bind' (queryTile_avoids ..) fun _ => avoids_bind' (avoids_ld ..) fun _ =>
    avoids_bind' (column_avoids _ _ _ _ _ _ not_false not_false not_false not_false not_false ..) fun _ => avoids_bind' (column_avoids _ _ _ _ _ _ not_false not_false not_false not_false not_false ..) fun _ =>
    avoids_bind' (avoids_ld ..) fun _ => avoids_bind' (avoids_ld ..) fun _ => avoids_bind' (avoids_ld ..) fun _ =>
    avoids_bind' (avoids_st _ _ _ _ _ _ _ not_false) fun _ => avoids_st _ _ _ _ _ _ _ not_false

theorem soloTile_avoids (cexp : F .f32) (qi hq h hh) : Avoids Slot.input (soloTile cexp qi hq h hh) :=
  avoids_bind' (queryTile_avoids ..) fun _ => avoids_bind' (avoids_ld ..) fun _ => avoids_bind' (column_avoids _ _ _ _ _ _ not_false not_false not_false not_false not_false ..) fun _ =>
    avoids_bind' (avoids_ld ..) fun _ => avoids_bind' (avoids_ld ..) fun _ => avoids_st _ _ _ _ _ _ _ not_false

theorem unitTile_avoids (cexp : F .f32) (u hu) : Avoids Slot.input (unitTile cexp u hu) := by
  unfold unitTile
  split
  · exact pairTile_avoids ..
  · exact soloTile_avoids ..

theorem prelude_avoids : Avoids (F := F) Slot.input prelude := by
  unfold prelude
  refine avoids_bind' ?_ fun _ => avoids_bind' kvWords_avoids fun _ => ?_
  · exact avoids_loop (fun h hh _ => headWords_avoids h hh) _
  · refine avoids_loop (fun t ht _ => ?_) _
    exact avoids_bind' (keyTile_avoids t ht) fun _ => valueTile_avoids t ht

attribute [local irreducible] loop unitTile in
theorem body_avoids (cexp : F .f32) : Avoids Slot.input (body cexp) := by
  unfold body
  have h : Avoids Slot.input (loop 20 (fun u hu _ => unitTile cexp u hu) ⟨⟩) :=
    avoids_loop (f := fun u hu _ => unitTile cexp u hu) (fun u hu _ => unitTile_avoids cexp u hu) _
  exact avoids_bind prelude_avoids fun _ => h

end Cert.Mx

end
-- ==== Proof.KernelBody.lean ====
module

public import proofs.«01_k».proof.Proof.Tile
public import proofs.«01_k».proof.Kernel
public import Idealize.ShloMosaic.Lib.Pipeline.Regions

@[expose] public section

noncomputable section

/-!
# The printed body of the kernel is the program with loops

The printed body, every loop of it unrolled, performs the operations of `Cert.Mx.body`, in its order.
-/

namespace Cert.Kernel.Hand

open Idealize.ShloMosaic Idealize.SL.Sem Cert.Mx

variable {F : FTy → Type} [FloatOps F] [Facts]

/-- The constant a score is multiplied by before it is exponentiated. -/
def cexp : F .f32 := Scalar.ofBits .f32 0x3E0293EE#32

/-- The printed body at the buffers `M`. -/
abbrev printed (M : Refs sig) (i : grid0.Coords) : Prog (TpuEff nD τ sig (Elt F) Λ₀ .tc) PUnit :=
  cc0_mx_gqa i (M.m .q) (M.whole .q) (M.m .qs) (M.whole .qs) (M.m .k) (M.whole .k) (M.m .ks) (M.whole .ks) (M.m .v) (M.whole .v) (M.m .vs) (M.whole .vs)
    (M.m .o) (M.whole .o) (M.m .kbf) (M.whole .kbf) (M.m .vt) (M.whole .vt) (M.m .qsw) (M.whole .qsw) (M.m .ksw) (M.whole .ksw) (M.m .vsw) (M.whole .vsw)
    (M.m .s) (M.whole .s) (M.m .p) (M.whole .p) (M.m .slab) (M.whole .slab) (M.m .g) (M.whole .g) (M.m .w) (M.whole .w)

theorem printed_eq (M : Refs sig) (i : grid0.Coords) : printed (F := F) M i = den M (body cexp) := by chain_rfl

end Cert.Kernel.Hand

end
-- ==== Proof.KernelFrame.lean ====
module

public import proofs.«01_k».proof.Proof.Keep
public import proofs.«01_k».proof.Proof.KernelBody
public import proofs.«01_k».proof.Proof.Gen.Kernel.Frame
public import Idealize.ShloMosaic.Lib.Pipeline.Regions

@[expose] public section

noncomputable section

/-!
# Every run of the kernel leaves the arguments unchanged

The body at a grid point is `Cert.Mx.body` at the point's buffers. It leaves its input blocks as they
were, whatever the scratch buffers hold, and writes a block of the result. `run_forget` says so of a
whole run without naming the result; `run_exact` names it, given what the body writes at each point.
-/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat cellOf)
open Cert.Kernel.Gen Cert.Mx

variable {F : FTy → Type} [FloatOps F]

local notation "𝕄" => MT nD τ sig Unit (Elt F) ℕ (UR sig nD τ) ℕ

/-- The buffers the body is called with at point `t`. -/
noncomputable def refs (t : Fin cfg0.N) : Refs sig where
  m := fun
    | .q => st0_0 t | .qs => st0_1 t | .k => st0_2 t | .ks => st0_3 t | .v => st0_4 t | .vs => st0_5 t | .o => st0_6 t
    | .kbf => Memref.whole cc0_scratch0 | .vt => Memref.whole cc0_scratch1 | .qsw => Memref.whole cc0_scratch2
    | .ksw => Memref.whole cc0_scratch3 | .vsw => Memref.whole cc0_scratch4 | .s => Memref.whole cc0_scratch5
    | .p => Memref.whole cc0_scratch6 | .slab => Memref.whole cc0_scratch7 | .g => Memref.whole cc0_scratch8
    | .w => Memref.whole cc0_scratch9
  whole := fun
    | .q => hstage0_0 ((cfg0.slots t 0).cast nbuf0_0) | .qs => hstage0_1 ((cfg0.slots t 1).cast nbuf0_1)
    | .k => hstage0_2 ((cfg0.slots t 2).cast nbuf0_2) | .ks => hstage0_3 ((cfg0.slots t 3).cast nbuf0_3)
    | .v => hstage0_4 ((cfg0.slots t 4).cast nbuf0_4) | .vs => hstage0_5 ((cfg0.slots t 5).cast nbuf0_5)
    | .o => hstage0_6 ((cfg0.slots t 6).cast nbuf0_6)
    | .kbf => Memref.isWhole_whole _ | .vt => Memref.isWhole_whole _ | .qsw => Memref.isWhole_whole _
    | .ksw => Memref.isWhole_whole _ | .vsw => Memref.isWhole_whole _ | .s => Memref.isWhole_whole _
    | .p => Memref.isWhole_whole _ | .slab => Memref.isWhole_whole _ | .g => Memref.isWhole_whole _
    | .w => Memref.isWhole_whole _

theorem body_eq (t : Fin cfg0.N) : bodyAt0 (F := F) t = den (refs t) (body cexp) := by
  have h := printed_eq (F := F) (refs t) (grid0.coords t)
  exact h

variable (m : (ℓ : Loc nD τ sig) → Buf (Elt F) ℓ) (ρ : Dev nD → PrngReg)

/-- Contents with the input blocks of core `c` at point `t`. -/
structure Inputs (c : Dev nD) (t : Fin cfg0.N) (σ : Mem F) : Prop where
  q : σ .q = iblk m c 0 t
  qs : σ .qs = iblk m c 1 t
  k : σ .k = iblk m c 2 t
  ks : σ .ks = iblk m c 3 t
  v : σ .v = iblk m c 4 t
  vs : σ .vs = iblk m c 5 t

/-- The input blocks core `c` owns at point `t`. -/
def blocks (c : Dev nD) (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t))

/-- The seventeen buffers one by one. -/
theorem held_eq (c : Dev nD) (t : Fin cfg0.N) (σ : Mem F) : (held (refs t) c σ : sProp 𝕄) =
    iprop(owns (c : Thread nD τ) (st0_0 t) fullShare (σ .q) ∗ owns (c : Thread nD τ) (st0_1 t) fullShare (σ .qs)
      ∗ owns (c : Thread nD τ) (st0_2 t) fullShare (σ .k) ∗ owns (c : Thread nD τ) (st0_3 t) fullShare (σ .ks)
      ∗ owns (c : Thread nD τ) (st0_4 t) fullShare (σ .v) ∗ owns (c : Thread nD τ) (st0_5 t) fullShare (σ .vs)
      ∗ owns (c : Thread nD τ) (st0_6 t) fullShare (σ .o)
      ∗ ((c : Thread nD τ).loc cc0_scratch0 ↦{fullShare} σ .kbf) ∗ ((c : Thread nD τ).loc cc0_scratch1 ↦{fullShare} σ .vt)
      ∗ ((c : Thread nD τ).loc cc0_scratch2 ↦{fullShare} σ .qsw) ∗ ((c : Thread nD τ).loc cc0_scratch3 ↦{fullShare} σ .ksw)
      ∗ ((c : Thread nD τ).loc cc0_scratch4 ↦{fullShare} σ .vsw) ∗ ((c : Thread nD τ).loc cc0_scratch5 ↦{fullShare} σ .s)
      ∗ ((c : Thread nD τ).loc cc0_scratch6 ↦{fullShare} σ .p) ∗ ((c : Thread nD τ).loc cc0_scratch7 ↦{fullShare} σ .slab)
      ∗ ((c : Thread nD τ).loc cc0_scratch8 ↦{fullShare} σ .g) ∗ ((c : Thread nD τ).loc cc0_scratch9 ↦{fullShare} σ .w)) := by
  unfold held
  rw [bigSep_univ_eq_bigSepL [Slot.q, .qs, .k, .ks, .v, .vs, .o, .kbf, .vt, .qsw, .ksw, .vsw, .s, .p, .slab, .g, .w] (by decide) (by decide)]
  simp only [← owns_whole]
  rfl

/-- The body at point `t`: from the input blocks, a result block at any contents and the scratch buffers at any,
    it ends with the input blocks as they were and the result block as `ev` computes it from some contents that
    have those input blocks. -/
theorem sound_point (c : Dev nD) (t : Fin cfg0.N) (X : Slot.o.shp.Idx → Elt F Slot.o.elt) (P : sProp 𝕄) :
    iprop(Pipeline.ΦA spec0 c ∗ P ∗ blocks m c t ∗ owns (c : Thread nD τ) (st0_6 t) fullShare X)
      ⊢ wp frame (wpE (defs₀ (F := F)) Variants.none c none) Set.univ (bodyAt0 t) (fun _ =>
        iprop(Pipeline.ΦA spec0 c ∗ P ∗ blocks m c t
          ∗ ∃ σ : Mem F, ⌜Inputs m c t σ⌝ ∗ owns (c : Thread nD τ) (st0_6 t) fullShare ((ev (body cexp) σ).2 .o))) := by
  rw [body_eq]
  unfold Pipeline.ΦA blocks
  rw [scopedRest0_eq]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, G⟩, HP, ⟨H0, H1, H2, H3, H4, H5⟩, H6⟩
  let σ : Mem F := fun
    | .q => iblk m c 0 t | .qs => iblk m c 1 t | .k => iblk m c 2 t | .ks => iblk m c 3 t | .v => iblk m c 4 t | .vs => iblk m c 5 t
    | .o => X | .kbf => f0 | .vt => f1 | .qsw => f2 | .ksw => f3 | .vsw => f4 | .s => f5 | .p => f6 | .slab => f7 | .g => f8 | .w => f9
  iapply (sound (defs₀ (F := F)) Variants.none Set.univ (refs t) c (body cexp) σ _)
  rw [held_eq, held_eq]
  simp only [ev_of_avoids (body cexp) (body_avoids cexp) σ (a := Slot.q) trivial, ev_of_avoids (body cexp) (body_avoids cexp) σ (a := Slot.qs) trivial,
    ev_of_avoids (body cexp) (body_avoids cexp) σ (a := Slot.k) trivial, ev_of_avoids (body cexp) (body_avoids cexp) σ (a := Slot.ks) trivial,
    ev_of_avoids (body cexp) (body_avoids cexp) σ (a := Slot.v) trivial, ev_of_avoids (body cexp) (body_avoids cexp) σ (a := Slot.vs) trivial]
  isplitl [H0 H1 H2 H3 H4 H5 H6 S0 S1 S2 S3 S4 S5 S6 S7 S8 S9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iintro ⟨H0, H1, H2, H3, H4, H5, H6, S0, S1, S2, S3, S4, S5, S6, S7, S8, S9⟩
  isplitl [S0 S1 S2 S3 S4 S5 S6 S7 S8 S9 G]
  · isplitr [G]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      iexists _; iexact S9
    iexact G
  isplitl [HP]; · iexact HP
  isplitl [H0 H1 H2 H3 H4 H5]
  · isplitl [H0]; · iexact H0
    isplitl [H1]; · iexact H1
    isplitl [H2]; · iexact H2
    isplitl [H3]; · iexact H3
    isplitl [H4]; · iexact H4
    iexact H5
  iexists σ
  isplitr
  · ipureintro
    exact ⟨rfl, rfl, rfl, rfl, rfl, rfl⟩
  iexact H6

/-! ## The pipeline's data -/

/-- What the body is to leave of the result at each point. -/
abbrev Out (F : FTy → Type) : Type := Dev nD → Fin cfg0.N → Slot.o.shp.Idx → Elt F Slot.o.elt

/-- The data of the one pipeline: each input's buffer at its block, the result's as `O` says. -/
def dats (O : Out F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => O c t
  Φ _ := Pipeline.ΦA spec0 c
  q _ := fullShare
  owed _ := 0

variable (O : Out F)

theorem A_eq (c : Dev nD) (w : Fin cfg0.W) : (dats m O 0 c).A w = V m c (Pipeline.arrRef spec0 w) := by dsimp only [dats]

theorem after0_0 (c : Dev nD) (t : Fin cfg0.N) : (dats m O 0 c).after 0 t = iblk m c 0 t := by dsimp only [dats]
theorem after0_1 (c : Dev nD) (t : Fin cfg0.N) : (dats m O 0 c).after 1 t = iblk m c 1 t := by dsimp only [dats]
theorem after0_2 (c : Dev nD) (t : Fin cfg0.N) : (dats m O 0 c).after 2 t = iblk m c 2 t := by dsimp only [dats]
theorem after0_3 (c : Dev nD) (t : Fin cfg0.N) : (dats m O 0 c).after 3 t = iblk m c 3 t := by dsimp only [dats]
theorem after0_4 (c : Dev nD) (t : Fin cfg0.N) : (dats m O 0 c).after 4 t = iblk m c 4 t := by dsimp only [dats]
theorem after0_5 (c : Dev nD) (t : Fin cfg0.N) : (dats m O 0 c).after 5 t = iblk m c 5 t := by dsimp only [dats]
theorem after0_6 (c : Dev nD) (t : Fin cfg0.N) : (dats m O 0 c).after 6 t = O c t := by dsimp only [dats]

theorem before0_0 (c : Dev nD) (t : Fin cfg0.N) (d) : (dats m O 0 c).before 0 t d = iblk m c 0 t := before0_0_of m (dats m O 0 c) (A_eq m O c 0) (after0_0 m O c) t d
theorem before0_1 (c : Dev nD) (t : Fin cfg0.N) (d) : (dats m O 0 c).before 1 t d = iblk m c 1 t := before0_1_of m (dats m O 0 c) (A_eq m O c 1) (after0_1 m O c) t d
theorem before0_2 (c : Dev nD) (t : Fin cfg0.N) (d) : (dats m O 0 c).before 2 t d = iblk m c 2 t := before0_2_of m (dats m O 0 c) (A_eq m O c 2) (after0_2 m O c) t d
theorem before0_3 (c : Dev nD) (t : Fin cfg0.N) (d) : (dats m O 0 c).before 3 t d = iblk m c 3 t := before0_3_of m (dats m O 0 c) (A_eq m O c 3) (after0_3 m O c) t d
theorem before0_4 (c : Dev nD) (t : Fin cfg0.N) (d) : (dats m O 0 c).before 4 t d = iblk m c 4 t := before0_4_of m (dats m O 0 c) (A_eq m O c 4) (after0_4 m O c) t d
theorem before0_5 (c : Dev nD) (t : Fin cfg0.N) (d) : (dats m O 0 c).before 5 t d = iblk m c 5 t := before0_5_of m (dats m O 0 c) (A_eq m O c 5) (after0_5 m O c) t d

/-- The input blocks as the pipeline hands them over. -/
def handed (c : Dev nD) (t : Fin cfg0.N) (R : sProp 𝕄) : sProp 𝕄 :=
  iprop((dats m O 0 c).Φ t.castSucc ∗ (dats m O 0 c).owesAt () t.castSucc
    ∗ (∃ d, owns (c : Thread nD τ) (st0_0 t) fullShare ((dats m O 0 c).before 0 t d))
    ∗ (∃ d, owns (c : Thread nD τ) (st0_1 t) fullShare ((dats m O 0 c).before 1 t d))
    ∗ (∃ d, owns (c : Thread nD τ) (st0_2 t) fullShare ((dats m O 0 c).before 2 t d))
    ∗ (∃ d, owns (c : Thread nD τ) (st0_3 t) fullShare ((dats m O 0 c).before 3 t d))
    ∗ (∃ d, owns (c : Thread nD τ) (st0_4 t) fullShare ((dats m O 0 c).before 4 t d))
    ∗ (∃ d, owns (c : Thread nD τ) (st0_5 t) fullShare ((dats m O 0 c).before 5 t d))
    ∗ R)

/-- The input blocks as the body returns them. -/
def returned (c : Dev nD) (t : Fin cfg0.N) (R : sProp 𝕄) : sProp 𝕄 :=
  iprop((dats m O 0 c).Φ t.succ ∗ (dats m O 0 c).owesAt () t.succ
    ∗ owns (c : Thread nD τ) (st0_0 t) fullShare ((dats m O 0 c).after 0 t)
    ∗ owns (c : Thread nD τ) (st0_1 t) fullShare ((dats m O 0 c).after 1 t)
    ∗ owns (c : Thread nD τ) (st0_2 t) fullShare ((dats m O 0 c).after 2 t)
    ∗ owns (c : Thread nD τ) (st0_3 t) fullShare ((dats m O 0 c).after 3 t)
    ∗ owns (c : Thread nD τ) (st0_4 t) fullShare ((dats m O 0 c).after 4 t)
    ∗ owns (c : Thread nD τ) (st0_5 t) fullShare ((dats m O 0 c).after 5 t)
    ∗ R)

theorem sound_body (c : Dev nD) (t : Fin cfg0.N) (R : sProp 𝕄)
    (hR : ∀ σ : Mem F, Inputs m c t σ → (owns (c : Thread nD τ) (st0_6 t) fullShare ((ev (body cexp) σ).2 .o) : sProp 𝕄) ⊢ R) :
    handed m O c t iprop(∃ X, owns (c : Thread nD τ) (st0_6 t) fullShare X)
      ⊢ wp frame (wpE (defs₀ (F := F)) Variants.none c none) Set.univ (bodyAt0 t) (fun _ => returned m O c t R) := by
  have hp : ∀ X, iprop(Pipeline.ΦA spec0 c ∗ (dats m O 0 c).owesAt () t.castSucc ∗ blocks m c t ∗ owns (c : Thread nD τ) (st0_6 t) fullShare X)
      ⊢ wp frame (wpE (defs₀ (F := F)) Variants.none c none) Set.univ (bodyAt0 t) (fun _ => returned m O c t R) := fun X => by
    refine BIBase.Entails.trans (sound_point m c t X ((dats m O 0 c).owesAt () t.castSucc)) (wp_mono _ _ _ fun _ => ?_)
    unfold returned blocks
    rw [show (dats m O 0 c).Φ t.succ = Pipeline.ΦA spec0 c from rfl,
      show (dats m O 0 c).owesAt () t.succ = (dats m O 0 c).owesAt () t.castSucc from rfl, after0_0, after0_1, after0_2, after0_3, after0_4, after0_5]
    iintro ⟨HΦ, Ho, ⟨H0, H1, H2, H3, H4, H5⟩, %σ, %hσ, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (hR σ hσ)
    iexact H6
  unfold handed
  simp only [before0_0, before0_1, before0_2, before0_3, before0_4, before0_5]
  rw [show (dats m O 0 c).Φ t.castSucc = Pipeline.ΦA spec0 c from rfl]
  iintro ⟨HΦ, Ho, ⟨%d0, H0⟩, ⟨%d1, H1⟩, ⟨%d2, H2⟩, ⟨%d3, H3⟩, ⟨%d4, H4⟩, ⟨%d5, H5⟩, %X, H6⟩
  iapply (hp X)
  unfold blocks
  isplitl [HΦ]; · iexact HΦ
  isplitl [Ho]; · iexact Ho
  isplitr [H6]
  · isplitl [H0]; · iexact H0
    isplitl [H1]; · iexact H1
    isplitl [H2]; · iexact H2
    isplitl [H3]; · iexact H3
    isplitl [H4]; · iexact H4
    iexact H5
  iexact H6

theorem defs₀_row (t : Fin cfg0.N) : defs₀ (F := F) .tc cfg0.body (cfg0.bodyArgs t (cfg0.slots t)) = bodyAt0 t := by
  unfold defs₀; rw [Defs.onTc_tc]

/-- The result's window, the one whose contents are not named. -/
def fgt (w : Fin cfg0.W) : Bool := w == (6 : Fin 7)

theorem body_forget (c : Dev nD) : BodyObligationLoose (dats (F := F) m O 0 c) (defs₀ (F := F)) Variants.none () Set.univ fgt := fun t => by
  rw [bigSep_W0, bigSep_W0, defs₀_row]
  refine triple_restated (sound_body m O c t iprop(∃ X, owns (c : Thread nD τ) (st0_6 t) fullShare X) fun σ _ => ?_) rfl .rfl fun _ => .rfl
  iintro H
  iexists _
  iexact H

theorem body_exact (c : Dev nD) (hO : ∀ t σ, Inputs m c t σ → (ev (body cexp) σ).2 .o = O c t) :
    BodyObligation (dats (F := F) m O 0 c) (defs₀ (F := F)) Variants.none () Set.univ := fun t => by
  have h : handed m O c t iprop(∃ d, owns (c : Thread nD τ) (st0_6 t) fullShare ((dats m O 0 c).before 6 t d))
      ⊢ wp frame (wpE (defs₀ (F := F)) Variants.none c none) Set.univ (bodyAt0 t)
        (fun _ => returned m O c t (owns (c : Thread nD τ) (st0_6 t) fullShare ((dats m O 0 c).after 6 t))) := by
    refine BIBase.Entails.trans ?_ (sound_body m O c t _ fun σ hσ => ?_)
    · unfold handed
      iintro ⟨HΦ, Ho, H0, H1, H2, H3, H4, H5, %d, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _
      iexact H6
    · rw [hO t σ hσ, after0_6]
  rw [bigSep_W0, bigSep_W0, defs₀_row]
  exact triple_restated h rfl .rfl fun _ => .rfl

/-! ## The runs -/

set_option backward.isDefEq.respectTransparency.types false in
set_option maxHeartbeats 800000 in
theorem run_forget : θ_run defs (onTc (τ := τ) (main (F := F))) (s₀ m ρ)
    (fun r => (RDat.FramePost cfg0 (fun c => (dats m O 0 c).toRForget fgt) (V m)) r ∧ r.2.sem = fun _ => 0) :=
  Pipeline.θ_run_frame_forget (Q' := _) cfgs (dats m O) (0 : Fin 1) launch0 defs₀ Variants.none fgt m ρ main
    (hbody := body_forget m O) (hshare := fun c => (dats m O 0 c).share_full fun _ => rfl)
    (howed := fun _ _ => rfl) (V := V m)
    (hmain := hmain m Variants.none) (hA := A_eq m O) (hΦ := fun _ _ => rfl)

set_option backward.isDefEq.respectTransparency.types false in
set_option maxHeartbeats 800000 in
theorem run_exact (hO : ∀ c t σ, Inputs m c t σ → (ev (body cexp) σ).2 .o = O c t) : θ_run defs (onTc (τ := τ) (main (F := F))) (s₀ m ρ)
    (fun r => (Pipeline.FramePost cfgs (dats m O) 0 (V m)) r ∧ r.2.sem = fun _ => 0) :=
  Pipeline.θ_run_frame (Q' := _) cfgs (dats m O) (0 : Fin 1) launch0 defs₀ Variants.none m ρ main
    (hbody := fun c => (body_exact m O c (hO c)).loose) (hshare := fun c => (dats m O 0 c).share_full fun _ => rfl)
    (howed := fun _ _ => rfl) (V := V m)
    (hmain := hmain m Variants.none) (hA := A_eq m O) (hΦ := fun _ _ => rfl)

/-- Every run ends, with the arguments unchanged and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_forget m ρ fun _ _ _ => (FloatOps.ofBits .bf16 0#16 : F .bf16))

end Cert.Kernel.Hand

end
-- ==== Proof.KernelIdealBody.lean ====
module

public import proofs.«01_k».proof.Proof.Tile
public import proofs.«01_k».proof.KernelIdeal
public import Idealize.ShloMosaic.Lib.Pipeline.Regions

@[expose] public section

noncomputable section

/-!
# The printed body of the kernel at exact constants is the program with loops

The printed body, every loop of it unrolled, performs the operations of `Cert.Mx.body`, in its order.
-/

namespace Cert.KernelIdeal.Hand

open Idealize.ShloMosaic Idealize.SL.Sem Cert.Mx

variable {F : FTy → Type} [FloatOps F] [Named F] [Facts]

/-- The constant a score is multiplied by before it is exponentiated. -/
def cexp : F .f32 := Named.named κ "c_exp" 0x3E0293EE#32

/-- The printed body at the buffers `M`. -/
abbrev printed (M : Refs sig) (i : grid0.Coords) : Prog (TpuEff nD τ sig (Elt F) Λ₀ .tc) PUnit :=
  cc0_mx_gqa i (M.m .q) (M.whole .q) (M.m .qs) (M.whole .qs) (M.m .k) (M.whole .k) (M.m .ks) (M.whole .ks) (M.m .v) (M.whole .v) (M.m .vs) (M.whole .vs)
    (M.m .o) (M.whole .o) (M.m .kbf) (M.whole .kbf) (M.m .vt) (M.whole .vt) (M.m .qsw) (M.whole .qsw) (M.m .ksw) (M.whole .ksw) (M.m .vsw) (M.whole .vsw)
    (M.m .s) (M.whole .s) (M.m .p) (M.whole .p) (M.m .slab) (M.whole .slab) (M.m .g) (M.whole .g) (M.m .w) (M.whole .w)

theorem printed_eq (M : Refs sig) (i : grid0.Coords) : printed (F := F) M i = den M (body cexp) := by chain_rfl

end Cert.KernelIdeal.Hand

end
-- ==== Proof.KernelIdealFrame.lean ====
module

public import proofs.«01_k».proof.Proof.Keep
public import proofs.«01_k».proof.Proof.KernelIdealBody
public import proofs.«01_k».proof.Proof.Gen.KernelIdeal.Frame
public import Idealize.ShloMosaic.Lib.Pipeline.Regions

@[expose] public section

noncomputable section

/-!
# Every run of the kernel at exact constants leaves the arguments unchanged

The body at a grid point is `Cert.Mx.body` at the point's buffers. It leaves its input blocks as they
were, whatever the scratch buffers hold, and writes a block of the result. `run_forget` says so of a
whole run without naming the result; `run_exact` names it, given what the body writes at each point.
-/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat cellOf)
open Cert.KernelIdeal.Gen Cert.Mx

variable {F : FTy → Type} [FloatOps F] [Named F]

local notation "𝕄" => MT nD τ sig Unit (Elt F) ℕ (UR sig nD τ) ℕ

/-- The buffers the body is called with at point `t`. -/
noncomputable def refs (t : Fin cfg0.N) : Refs sig where
  m := fun
    | .q => st0_0 t | .qs => st0_1 t | .k => st0_2 t | .ks => st0_3 t | .v => st0_4 t | .vs => st0_5 t | .o => st0_6 t
    | .kbf => Memref.whole cc0_scratch0 | .vt => Memref.whole cc0_scratch1 | .qsw => Memref.whole cc0_scratch2
    | .ksw => Memref.whole cc0_scratch3 | .vsw => Memref.whole cc0_scratch4 | .s => Memref.whole cc0_scratch5
    | .p => Memref.whole cc0_scratch6 | .slab => Memref.whole cc0_scratch7 | .g => Memref.whole cc0_scratch8
    | .w => Memref.whole cc0_scratch9
  whole := fun
    | .q => hstage0_0 ((cfg0.slots t 0).cast nbuf0_0) | .qs => hstage0_1 ((cfg0.slots t 1).cast nbuf0_1)
    | .k => hstage0_2 ((cfg0.slots t 2).cast nbuf0_2) | .ks => hstage0_3 ((cfg0.slots t 3).cast nbuf0_3)
    | .v => hstage0_4 ((cfg0.slots t 4).cast nbuf0_4) | .vs => hstage0_5 ((cfg0.slots t 5).cast nbuf0_5)
    | .o => hstage0_6 ((cfg0.slots t 6).cast nbuf0_6)
    | .kbf => Memref.isWhole_whole _ | .vt => Memref.isWhole_whole _ | .qsw => Memref.isWhole_whole _
    | .ksw => Memref.isWhole_whole _ | .vsw => Memref.isWhole_whole _ | .s => Memref.isWhole_whole _
    | .p => Memref.isWhole_whole _ | .slab => Memref.isWhole_whole _ | .g => Memref.isWhole_whole _
    | .w => Memref.isWhole_whole _

theorem body_eq (t : Fin cfg0.N) : bodyAt0 (F := F) t = den (refs t) (body cexp) := by
  have h := printed_eq (F := F) (refs t) (grid0.coords t)
  exact h

variable (m : (ℓ : Loc nD τ sig) → Buf (Elt F) ℓ) (ρ : Dev nD → PrngReg)

/-- Contents with the input blocks of core `c` at point `t`. -/
structure Inputs (c : Dev nD) (t : Fin cfg0.N) (σ : Mem F) : Prop where
  q : σ .q = iblk m c 0 t
  qs : σ .qs = iblk m c 1 t
  k : σ .k = iblk m c 2 t
  ks : σ .ks = iblk m c 3 t
  v : σ .v = iblk m c 4 t
  vs : σ .vs = iblk m c 5 t

/-- The input blocks core `c` owns at point `t`. -/
def blocks (c : Dev nD) (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t))

/-- The seventeen buffers one by one. -/
theorem held_eq (c : Dev nD) (t : Fin cfg0.N) (σ : Mem F) : (held (refs t) c σ : sProp 𝕄) =
    iprop(owns (c : Thread nD τ) (st0_0 t) fullShare (σ .q) ∗ owns (c : Thread nD τ) (st0_1 t) fullShare (σ .qs)
      ∗ owns (c : Thread nD τ) (st0_2 t) fullShare (σ .k) ∗ owns (c : Thread nD τ) (st0_3 t) fullShare (σ .ks)
      ∗ owns (c : Thread nD τ) (st0_4 t) fullShare (σ .v) ∗ owns (c : Thread nD τ) (st0_5 t) fullShare (σ .vs)
      ∗ owns (c : Thread nD τ) (st0_6 t) fullShare (σ .o)
      ∗ ((c : Thread nD τ).loc cc0_scratch0 ↦{fullShare} σ .kbf) ∗ ((c : Thread nD τ).loc cc0_scratch1 ↦{fullShare} σ .vt)
      ∗ ((c : Thread nD τ).loc cc0_scratch2 ↦{fullShare} σ .qsw) ∗ ((c : Thread nD τ).loc cc0_scratch3 ↦{fullShare} σ .ksw)
      ∗ ((c : Thread nD τ).loc cc0_scratch4 ↦{fullShare} σ .vsw) ∗ ((c : Thread nD τ).loc cc0_scratch5 ↦{fullShare} σ .s)
      ∗ ((c : Thread nD τ).loc cc0_scratch6 ↦{fullShare} σ .p) ∗ ((c : Thread nD τ).loc cc0_scratch7 ↦{fullShare} σ .slab)
      ∗ ((c : Thread nD τ).loc cc0_scratch8 ↦{fullShare} σ .g) ∗ ((c : Thread nD τ).loc cc0_scratch9 ↦{fullShare} σ .w)) := by
  unfold held
  rw [bigSep_univ_eq_bigSepL [Slot.q, .qs, .k, .ks, .v, .vs, .o, .kbf, .vt, .qsw, .ksw, .vsw, .s, .p, .slab, .g, .w] (by decide) (by decide)]
  simp only [← owns_whole]
  rfl

/-- The body at point `t`: from the input blocks, a result block at any contents and the scratch buffers at any,
    it ends with the input blocks as they were and the result block as `ev` computes it from some contents that
    have those input blocks. -/
theorem sound_point (c : Dev nD) (t : Fin cfg0.N) (X : Slot.o.shp.Idx → Elt F Slot.o.elt) (P : sProp 𝕄) :
    iprop(Pipeline.ΦA spec0 c ∗ P ∗ blocks m c t ∗ owns (c : Thread nD τ) (st0_6 t) fullShare X)
      ⊢ wp frame (wpE (defs₀ (F := F)) Variants.none c none) Set.univ (bodyAt0 t) (fun _ =>
        iprop(Pipeline.ΦA spec0 c ∗ P ∗ blocks m c t
          ∗ ∃ σ : Mem F, ⌜Inputs m c t σ⌝ ∗ owns (c : Thread nD τ) (st0_6 t) fullShare ((ev (body cexp) σ).2 .o))) := by
  rw [body_eq]
  unfold Pipeline.ΦA blocks
  rw [scopedRest0_eq]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, G⟩, HP, ⟨H0, H1, H2, H3, H4, H5⟩, H6⟩
  let σ : Mem F := fun
    | .q => iblk m c 0 t | .qs => iblk m c 1 t | .k => iblk m c 2 t | .ks => iblk m c 3 t | .v => iblk m c 4 t | .vs => iblk m c 5 t
    | .o => X | .kbf => f0 | .vt => f1 | .qsw => f2 | .ksw => f3 | .vsw => f4 | .s => f5 | .p => f6 | .slab => f7 | .g => f8 | .w => f9
  iapply (sound (defs₀ (F := F)) Variants.none Set.univ (refs t) c (body cexp) σ _)
  rw [held_eq, held_eq]
  simp only [ev_of_avoids (body cexp) (body_avoids cexp) σ (a := Slot.q) trivial, ev_of_avoids (body cexp) (body_avoids cexp) σ (a := Slot.qs) trivial,
    ev_of_avoids (body cexp) (body_avoids cexp) σ (a := Slot.k) trivial, ev_of_avoids (body cexp) (body_avoids cexp) σ (a := Slot.ks) trivial,
    ev_of_avoids (body cexp) (body_avoids cexp) σ (a := Slot.v) trivial, ev_of_avoids (body cexp) (body_avoids cexp) σ (a := Slot.vs) trivial]
  isplitl [H0 H1 H2 H3 H4 H5 H6 S0 S1 S2 S3 S4 S5 S6 S7 S8 S9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iintro ⟨H0, H1, H2, H3, H4, H5, H6, S0, S1, S2, S3, S4, S5, S6, S7, S8, S9⟩
  isplitl [S0 S1 S2 S3 S4 S5 S6 S7 S8 S9 G]
  · isplitr [G]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      iexists _; iexact S9
    iexact G
  isplitl [HP]; · iexact HP
  isplitl [H0 H1 H2 H3 H4 H5]
  · isplitl [H0]; · iexact H0
    isplitl [H1]; · iexact H1
    isplitl [H2]; · iexact H2
    isplitl [H3]; · iexact H3
    isplitl [H4]; · iexact H4
    iexact H5
  iexists σ
  isplitr
  · ipureintro
    exact ⟨rfl, rfl, rfl, rfl, rfl, rfl⟩
  iexact H6

/-! ## The pipeline's data -/

/-- What the body is to leave of the result at each point. -/
abbrev Out (F : FTy → Type) : Type := Dev nD → Fin cfg0.N → Slot.o.shp.Idx → Elt F Slot.o.elt

/-- The data of the one pipeline: each input's buffer at its block, the result's as `O` says. -/
def dats (O : Out F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => O c t
  Φ _ := Pipeline.ΦA spec0 c
  q _ := fullShare
  owed _ := 0

variable (O : Out F)

theorem A_eq (c : Dev nD) (w : Fin cfg0.W) : (dats m O 0 c).A w = V m c (Pipeline.arrRef spec0 w) := by dsimp only [dats]

theorem after0_0 (c : Dev nD) (t : Fin cfg0.N) : (dats m O 0 c).after 0 t = iblk m c 0 t := by dsimp only [dats]
theorem after0_1 (c : Dev nD) (t : Fin cfg0.N) : (dats m O 0 c).after 1 t = iblk m c 1 t := by dsimp only [dats]
theorem after0_2 (c : Dev nD) (t : Fin cfg0.N) : (dats m O 0 c).after 2 t = iblk m c 2 t := by dsimp only [dats]
theorem after0_3 (c : Dev nD) (t : Fin cfg0.N) : (dats m O 0 c).after 3 t = iblk m c 3 t := by dsimp only [dats]
theorem after0_4 (c : Dev nD) (t : Fin cfg0.N) : (dats m O 0 c).after 4 t = iblk m c 4 t := by dsimp only [dats]
theorem after0_5 (c : Dev nD) (t : Fin cfg0.N) : (dats m O 0 c).after 5 t = iblk m c 5 t := by dsimp only [dats]
theorem after0_6 (c : Dev nD) (t : Fin cfg0.N) : (dats m O 0 c).after 6 t = O c t := by dsimp only [dats]

theorem before0_0 (c : Dev nD) (t : Fin cfg0.N) (d) : (dats m O 0 c).before 0 t d = iblk m c 0 t := before0_0_of m (dats m O 0 c) (A_eq m O c 0) (after0_0 m O c) t d
theorem before0_1 (c : Dev nD) (t : Fin cfg0.N) (d) : (dats m O 0 c).before 1 t d = iblk m c 1 t := before0_1_of m (dats m O 0 c) (A_eq m O c 1) (after0_1 m O c) t d
theorem before0_2 (c : Dev nD) (t : Fin cfg0.N) (d) : (dats m O 0 c).before 2 t d = iblk m c 2 t := before0_2_of m (dats m O 0 c) (A_eq m O c 2) (after0_2 m O c) t d
theorem before0_3 (c : Dev nD) (t : Fin cfg0.N) (d) : (dats m O 0 c).before 3 t d = iblk m c 3 t := before0_3_of m (dats m O 0 c) (A_eq m O c 3) (after0_3 m O c) t d
theorem before0_4 (c : Dev nD) (t : Fin cfg0.N) (d) : (dats m O 0 c).before 4 t d = iblk m c 4 t := before0_4_of m (dats m O 0 c) (A_eq m O c 4) (after0_4 m O c) t d
theorem before0_5 (c : Dev nD) (t : Fin cfg0.N) (d) : (dats m O 0 c).before 5 t d = iblk m c 5 t := before0_5_of m (dats m O 0 c) (A_eq m O c 5) (after0_5 m O c) t d

/-- The input blocks as the pipeline hands them over. -/
def handed (c : Dev nD) (t : Fin cfg0.N) (R : sProp 𝕄) : sProp 𝕄 :=
  iprop((dats m O 0 c).Φ t.castSucc ∗ (dats m O 0 c).owesAt () t.castSucc
    ∗ (∃ d, owns (c : Thread nD τ) (st0_0 t) fullShare ((dats m O 0 c).before 0 t d))
    ∗ (∃ d, owns (c : Thread nD τ) (st0_1 t) fullShare ((dats m O 0 c).before 1 t d))
    ∗ (∃ d, owns (c : Thread nD τ) (st0_2 t) fullShare ((dats m O 0 c).before 2 t d))
    ∗ (∃ d, owns (c : Thread nD τ) (st0_3 t) fullShare ((dats m O 0 c).before 3 t d))
    ∗ (∃ d, owns (c : Thread nD τ) (st0_4 t) fullShare ((dats m O 0 c).before 4 t d))
    ∗ (∃ d, owns (c : Thread nD τ) (st0_5 t) fullShare ((dats m O 0 c).before 5 t d))
    ∗ R)

/-- The input blocks as the body returns them. -/
def returned (c : Dev nD) (t : Fin cfg0.N) (R : sProp 𝕄) : sProp 𝕄 :=
  iprop((dats m O 0 c).Φ t.succ ∗ (dats m O 0 c).owesAt () t.succ
    ∗ owns (c : Thread nD τ) (st0_0 t) fullShare ((dats m O 0 c).after 0 t)
    ∗ owns (c : Thread nD τ) (st0_1 t) fullShare ((dats m O 0 c).after 1 t)
    ∗ owns (c : Thread nD τ) (st0_2 t) fullShare ((dats m O 0 c).after 2 t)
    ∗ owns (c : Thread nD τ) (st0_3 t) fullShare ((dats m O 0 c).after 3 t)
    ∗ owns (c : Thread nD τ) (st0_4 t) fullShare ((dats m O 0 c).after 4 t)
    ∗ owns (c : Thread nD τ) (st0_5 t) fullShare ((dats m O 0 c).after 5 t)
    ∗ R)

theorem sound_body (c : Dev nD) (t : Fin cfg0.N) (R : sProp 𝕄)
    (hR : ∀ σ : Mem F, Inputs m c t σ → (owns (c : Thread nD τ) (st0_6 t) fullShare ((ev (body cexp) σ).2 .o) : sProp 𝕄) ⊢ R) :
    handed m O c t iprop(∃ X, owns (c : Thread nD τ) (st0_6 t) fullShare X)
      ⊢ wp frame (wpE (defs₀ (F := F)) Variants.none c none) Set.univ (bodyAt0 t) (fun _ => returned m O c t R) := by
  have hp : ∀ X, iprop(Pipeline.ΦA spec0 c ∗ (dats m O 0 c).owesAt () t.castSucc ∗ blocks m c t ∗ owns (c : Thread nD τ) (st0_6 t) fullShare X)
      ⊢ wp frame (wpE (defs₀ (F := F)) Variants.none c none) Set.univ (bodyAt0 t) (fun _ => returned m O c t R) := fun X => by
    refine BIBase.Entails.trans (sound_point m c t X ((dats m O 0 c).owesAt () t.castSucc)) (wp_mono _ _ _ fun _ => ?_)
    unfold returned blocks
    rw [show (dats m O 0 c).Φ t.succ = Pipeline.ΦA spec0 c from rfl,
      show (dats m O 0 c).owesAt () t.succ = (dats m O 0 c).owesAt () t.castSucc from rfl, after0_0, after0_1, after0_2, after0_3, after0_4, after0_5]
    iintro ⟨HΦ, Ho, ⟨H0, H1, H2, H3, H4, H5⟩, %σ, %hσ, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (hR σ hσ)
    iexact H6
  unfold handed
  simp only [before0_0, before0_1, before0_2, before0_3, before0_4, before0_5]
  rw [show (dats m O 0 c).Φ t.castSucc = Pipeline.ΦA spec0 c from rfl]
  iintro ⟨HΦ, Ho, ⟨%d0, H0⟩, ⟨%d1, H1⟩, ⟨%d2, H2⟩, ⟨%d3, H3⟩, ⟨%d4, H4⟩, ⟨%d5, H5⟩, %X, H6⟩
  iapply (hp X)
  unfold blocks
  isplitl [HΦ]; · iexact HΦ
  isplitl [Ho]; · iexact Ho
  isplitr [H6]
  · isplitl [H0]; · iexact H0
    isplitl [H1]; · iexact H1
    isplitl [H2]; · iexact H2
    isplitl [H3]; · iexact H3
    isplitl [H4]; · iexact H4
    iexact H5
  iexact H6

theorem defs₀_row (t : Fin cfg0.N) : defs₀ (F := F) .tc cfg0.body (cfg0.bodyArgs t (cfg0.slots t)) = bodyAt0 t := by
  unfold defs₀; rw [Defs.onTc_tc]

/-- The result's window, the one whose contents are not named. -/
def fgt (w : Fin cfg0.W) : Bool := w == (6 : Fin 7)

theorem body_forget (c : Dev nD) : BodyObligationLoose (dats (F := F) m O 0 c) (defs₀ (F := F)) Variants.none () Set.univ fgt := fun t => by
  rw [bigSep_W0, bigSep_W0, defs₀_row]
  refine triple_restated (sound_body m O c t iprop(∃ X, owns (c : Thread nD τ) (st0_6 t) fullShare X) fun σ _ => ?_) rfl .rfl fun _ => .rfl
  iintro H
  iexists _
  iexact H

theorem body_exact (c : Dev nD) (hO : ∀ t σ, Inputs m c t σ → (ev (body cexp) σ).2 .o = O c t) :
    BodyObligation (dats (F := F) m O 0 c) (defs₀ (F := F)) Variants.none () Set.univ := fun t => by
  have h : handed m O c t iprop(∃ d, owns (c : Thread nD τ) (st0_6 t) fullShare ((dats m O 0 c).before 6 t d))
      ⊢ wp frame (wpE (defs₀ (F := F)) Variants.none c none) Set.univ (bodyAt0 t)
        (fun _ => returned m O c t (owns (c : Thread nD τ) (st0_6 t) fullShare ((dats m O 0 c).after 6 t))) := by
    refine BIBase.Entails.trans ?_ (sound_body m O c t _ fun σ hσ => ?_)
    · unfold handed
      iintro ⟨HΦ, Ho, H0, H1, H2, H3, H4, H5, %d, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _
      iexact H6
    · rw [hO t σ hσ, after0_6]
  rw [bigSep_W0, bigSep_W0, defs₀_row]
  exact triple_restated h rfl .rfl fun _ => .rfl

/-! ## The runs -/

set_option backward.isDefEq.respectTransparency.types false in
set_option maxHeartbeats 800000 in
theorem run_forget : θ_run defs (onTc (τ := τ) (main (F := F))) (s₀ m ρ)
    (fun r => (RDat.FramePost cfg0 (fun c => (dats m O 0 c).toRForget fgt) (V m)) r ∧ r.2.sem = fun _ => 0) :=
  Pipeline.θ_run_frame_forget (Q' := _) cfgs (dats m O) (0 : Fin 1) launch0 defs₀ Variants.none fgt m ρ main
    (hbody := body_forget m O) (hshare := fun c => (dats m O 0 c).share_full fun _ => rfl)
    (howed := fun _ _ => rfl) (V := V m)
    (hmain := hmain m Variants.none) (hA := A_eq m O) (hΦ := fun _ _ => rfl)

set_option backward.isDefEq.respectTransparency.types false in
set_option maxHeartbeats 800000 in
theorem run_exact (hO : ∀ c t σ, Inputs m c t σ → (ev (body cexp) σ).2 .o = O c t) : θ_run defs (onTc (τ := τ) (main (F := F))) (s₀ m ρ)
    (fun r => (Pipeline.FramePost cfgs (dats m O) 0 (V m)) r ∧ r.2.sem = fun _ => 0) :=
  Pipeline.θ_run_frame (Q' := _) cfgs (dats m O) (0 : Fin 1) launch0 defs₀ Variants.none m ρ main
    (hbody := fun c => (body_exact m O c (hO c)).loose) (hshare := fun c => (dats m O 0 c).share_full fun _ => rfl)
    (howed := fun _ _ => rfl) (V := V m)
    (hmain := hmain m Variants.none) (hA := A_eq m O) (hΦ := fun _ _ => rfl)

/-- Every run ends, with the arguments unchanged and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_forget m ρ fun _ _ _ => (FloatOps.ofBits .bf16 0#16 : F .bf16))

end Cert.KernelIdeal.Hand

end
-- ==== Proof.Triple.lean ====
module

public import proofs.«01_k».proof.Proof.Keep
public import Idealize.ShloMosaic.Lib.Pointwise
public import Idealize.ShloMosaic.Lib.ValueLayout

@[expose] public section

noncomputable section

/-!
# What holds after a program

`Post p σ Q` says that `Q` holds of what `p` returns and of the contents it leaves, run on `σ`. One rule for
each way a program is built, and what a load reads and a store leaves at one index.
-/

namespace Cert.Mx

open Idealize.ShloMosaic Idealize.SL.Sem

variable {F : FTy → Type}

/-- `Q` holds of what the program returns and leaves. -/
def Post {α : Type} (p : Prog (Op F) α) (σ : Mem F) (Q : α → Mem F → Prop) : Prop := Q (ev p σ).1 (ev p σ).2

theorem Post.mono {α : Type} {p : Prog (Op F) α} {σ : Mem F} {Q R : α → Mem F → Prop} (h : Post p σ Q) (k : ∀ a σ', Q a σ' → R a σ') :
    Post p σ R := k _ _ h

theorem post_bind {α β : Type} {p : Prog (Op F) α} {k : α → Prog (Op F) β} {σ : Mem F} {Q : β → Mem F → Prop}
    (h : Post p σ fun a σ' => Post (k a) σ' Q) : Post (p >>= k) σ Q := by
  unfold Post at *
  rw [show (p >>= k) = p.bind k from rfl, ev_bind]
  exact h

theorem post_pure {α : Type} {a : α} {σ : Mem F} {Q : α → Mem F → Prop} (h : Q a σ) : Post (pure a) σ Q := h

/-- A program leaves the buffers it avoids. -/
theorem Post.keep {α : Type} {p : Prog (Op F) α} {σ : Mem F} {Q : α → Mem F → Prop} (A : Slot → Prop) (hA : Avoids A p) (h : Post p σ Q) :
    Post p σ fun a σ' => Q a σ' ∧ ∀ b, A b → σ' b = σ b :=
  ⟨h, fun _ hb => ev_of_avoids p hA σ hb⟩

theorem post_loop {A : Type} {n : ℕ} {f : (i : ℕ) → i < n → A → Prog (Op F) A} {a : A} {σ : Mem F} (P : ℕ → A → Mem F → Prop)
    (h0 : P 0 a σ) (step : ∀ i h a σ, P i a σ → Post (f i h a) σ (P (i + 1))) : Post (loop n f a) σ (P n) := by
  induction n with
  | zero => exact h0
  | succ n ih =>
    refine post_bind (p := loop n (fun i h => f i (Nat.lt_succ_of_lt h)) a) (Post.mono (ih fun i h a σ hP => step i _ a σ hP) fun a σ' hP => ?_)
    exact step n _ a σ' hP

section Ops

variable [FloatOps F]

theorem post_ld {a : Slot} {off size : Fin a.shp.rank → ℕ} {inb h} {σ : Mem F} {Q : Vec F ⟨a.shp.rank, size⟩ a.elt → Mem F → Prop}
    (hQ : Q (fun j => σ a ((Rect.unit off size inb).toLoadRect.idx j)) σ) : Post (ld a off size inb h) σ Q := hQ

theorem post_st {a : Slot} {off size : Fin a.shp.rank → ℕ} {inb h hx} {w : Vec F ⟨a.shp.rank, size⟩ a.elt} {σ : Mem F} {Q : PUnit → Mem F → Prop}
    (hQ : Q ⟨⟩ (Function.update σ a (put (Rect.unit off size inb).emb w (σ a)))) : Post (st a off size inb h hx w) σ Q := hQ

theorem post_in {a : Slot} {u hu t ht} {r : LoadRect t} {h} {σ : Mem F} {Q : _ → Mem F → Prop}
    (hQ : Q (fun j => σ a (inner u ht r j)) σ) : Post (Prog.lift (Op.loadIn a u hu t ht r h)) σ Q := hQ

theorem post_sin {a : Slot} {u hu t ht} {r : Rect t} {w h hx} {σ : Mem F} {Q : PUnit → Mem F → Prop}
    (hQ : Q ⟨⟩ (Function.update σ a (put (inner u ht r.toLoadRect) w (σ a)))) : Post (Prog.lift (Op.storeIn a u hu t ht r w h hx)) σ Q := hQ

end Ops

/-! ## One index -/

theorem unit2 {x y a b d e : ℕ} {inb} {i : Fin d} {j : Fin e} {i' : Fin x} {j' : Fin y} (h0 : i'.val = a + i.val) (h1 : j'.val = b + j.val) :
    (Rect.unit (s := M2 x y) ![a, b] ![d, e] inb).toLoadRect.idx (ix2 i j) = ix2 i' j' := by
  funext t; apply Fin.ext
  fin_cases t
  · show a + 1 * i.val = i'.val; omega
  · show b + 1 * j.val = j'.val; omega

theorem unit3 {x y z a b c d e f : ℕ} {inb} {i : Fin d} {j : Fin e} {k : Fin f} {i' : Fin x} {j' : Fin y} {k' : Fin z}
    (h0 : i'.val = a + i.val) (h1 : j'.val = b + j.val) (h2 : k'.val = c + k.val) :
    (Rect.unit (s := M3 x y z) ![a, b, c] ![d, e, f] inb).toLoadRect.idx (ix3 i j k) = ix3 i' j' k' := by
  funext t; apply Fin.ext
  fin_cases t
  · show a + 1 * i.val = i'.val; omega
  · show b + 1 * j.val = j'.val; omega
  · show c + 1 * k.val = k'.val; omega

theorem unit4 {x y z w a b c g d e f m : ℕ} {inb} {i : Fin d} {j : Fin e} {k : Fin f} {l : Fin m} {i' : Fin x} {j' : Fin y} {k' : Fin z} {l' : Fin w}
    (h0 : i'.val = a + i.val) (h1 : j'.val = b + j.val) (h2 : k'.val = c + k.val) (h3 : l'.val = g + l.val) :
    (Rect.unit (s := M4 x y z w) ![a, b, c, g] ![d, e, f, m] inb).toLoadRect.idx (ix4 i j k l) = ix4 i' j' k' l' := by
  funext t; apply Fin.ext
  fin_cases t
  · show a + 1 * i.val = i'.val; omega
  · show b + 1 * j.val = j'.val; omega
  · show c + 1 * k.val = k'.val; omega
  · show g + 1 * l.val = l'.val; omega

theorem put_in2 {α : Type} {x y a b d e : ℕ} {inb} {w : (M2 d e).Idx → α} {X : (M2 x y).Idx → α} {i : Fin d} {j : Fin e} {i' : Fin x} {j' : Fin y}
    (h0 : i'.val = a + i.val) (h1 : j'.val = b + j.val) :
    put (Rect.unit (s := M2 x y) ![a, b] ![d, e] inb).emb w X (ix2 i' j') = w (ix2 i j) := by
  rw [← unit2 (inb := inb) h0 h1]
  exact put_at (Rect.unit (s := M2 x y) ![a, b] ![d, e] inb).emb.injective w X _

theorem put_off2 {α : Type} {x y a b d e : ℕ} {inb} {w : (M2 d e).Idx → α} {X : (M2 x y).Idx → α} {i' : Fin x} {j' : Fin y}
    (h : ¬((a ≤ i'.val ∧ i'.val < a + d) ∧ b ≤ j'.val ∧ j'.val < b + e)) :
    put (Rect.unit (s := M2 x y) ![a, b] ![d, e] inb).emb w X (ix2 i' j') = X (ix2 i' j') := by
  refine put_off _ _ fun j hj => h ?_
  have e0 : a + 1 * (j 0).val = i'.val := congrArg (fun q : (M2 x y).Idx => (q 0).val) hj
  have e1 : b + 1 * (j 1).val = j'.val := congrArg (fun q : (M2 x y).Idx => (q 1).val) hj
  have l0 : (j 0).val < d := (j 0).isLt
  have l1 : (j 1).val < e := (j 1).isLt
  omega

theorem put_in3 {α : Type} {x y z a b c d e f : ℕ} {inb} {w : (M3 d e f).Idx → α} {X : (M3 x y z).Idx → α} {i : Fin d} {j : Fin e} {k : Fin f}
    {i' : Fin x} {j' : Fin y} {k' : Fin z} (h0 : i'.val = a + i.val) (h1 : j'.val = b + j.val) (h2 : k'.val = c + k.val) :
    put (Rect.unit (s := M3 x y z) ![a, b, c] ![d, e, f] inb).emb w X (ix3 i' j' k') = w (ix3 i j k) := by
  rw [← unit3 (inb := inb) h0 h1 h2]
  exact put_at (Rect.unit (s := M3 x y z) ![a, b, c] ![d, e, f] inb).emb.injective w X _

theorem put_off3 {α : Type} {x y z a b c d e f : ℕ} {inb} {w : (M3 d e f).Idx → α} {X : (M3 x y z).Idx → α} {i' : Fin x} {j' : Fin y} {k' : Fin z}
    (h : ¬((a ≤ i'.val ∧ i'.val < a + d) ∧ (b ≤ j'.val ∧ j'.val < b + e) ∧ c ≤ k'.val ∧ k'.val < c + f)) :
    put (Rect.unit (s := M3 x y z) ![a, b, c] ![d, e, f] inb).emb w X (ix3 i' j' k') = X (ix3 i' j' k') := by
  refine put_off _ _ fun j hj => h ?_
  have e0 : a + 1 * (j 0).val = i'.val := congrArg (fun q : (M3 x y z).Idx => (q 0).val) hj
  have e1 : b + 1 * (j 1).val = j'.val := congrArg (fun q : (M3 x y z).Idx => (q 1).val) hj
  have e2 : c + 1 * (j 2).val = k'.val := congrArg (fun q : (M3 x y z).Idx => (q 2).val) hj
  have l0 : (j 0).val < d := (j 0).isLt
  have l1 : (j 1).val < e := (j 1).isLt
  have l2 : (j 2).val < f := (j 2).isLt
  omega

/-- An index of a matrix which is one leading slab of a buffer, as an index of the buffer. -/
theorem inner_idx {x y z a n m d e : ℕ} {inb} (ht : (M3 1 n m).Squeezes (M2 n m)) (r : LoadRect (M2 n m)) (q : r.shape.Idx) {i' : Fin x} {j' : Fin y} {k' : Fin z}
    (h0 : i'.val = a) (h1 : j'.val = d + (r.off 0 + r.stride 0 * (q 0).val)) (h2 : k'.val = e + (r.off 1 + r.stride 1 * (q 1).val)) :
    inner (Rect.unit (s := M3 x y z) ![a, d, e] ![1, n, m] inb) ht r q = ix3 i' j' k' := by
  have l0 : r.off 0 + r.stride 0 * (q 0).val < n := r.coord_lt 0 (q 0).isLt
  have l1 : r.off 1 + r.stride 1 * (q 1).val < m := r.coord_lt 1 (q 1).isLt
  have hr : Shape.reshapeEquiv ht.numel_eq (r.idx q) = ix3 (0 : Fin 1) (⟨_, l0⟩ : Fin n) (⟨_, l1⟩ : Fin m) := by
    rw [show r.idx q = ix2 (⟨_, l0⟩ : Fin n) (⟨_, l1⟩ : Fin m) from eq_ix2 _]
    exact ValueIdx.reshapeEquiv_ix2_1ab _ _ _
  show (Rect.unit (s := M3 x y z) ![a, d, e] ![1, n, m] inb).emb (Shape.reshapeEquiv ht.numel_eq (r.idx q)) = _
  rw [hr]
  exact unit3 (by simpa using h0) h1 h2

end Cert.Mx

end
-- ==== Proof.Decode.lean ====
module

public import proofs.«01_k».proof.Proof.Triple
public import Idealize.ShloMosaic.Lib.BitcastPair
public import Idealize.ShloMosaic.Lib.BitcastPair.Halves

@[expose] public section

noncomputable section

/-!
# Scales and decoded operands

A scale byte as a word of two equal halves, a row of words as rows of scales, and the four-block product
which decodes a tile.
-/

namespace Cert.Mx

open Idealize.ShloMosaic Idealize.SL.Sem

/-- A scale byte in the exponent field of a bf16 number. -/
def half (s : BitVec 8) : BitVec 16 := s.setWidth 16 <<< 7

/-- The scale a byte stands for. -/
def scaleOf (s : BitVec 8) : EReal := Ideal.ofBits .bf16 (half s)

theorem append_bit (a b : BitVec 16) (t : ℕ) : (a ++ b : BitVec 32).getLsbD t = if t < 16 then b.getLsbD t else a.getLsbD (t - 16) :=
  BitVec.getLsbD_append

/-- A byte's exponent field in both halves of a word. -/
theorem word_eq (y : BitVec 8) : IntOp.ori (IntOp.shli ArithUnit.vector (BitVec.setWidth 32 y) 7#32) (IntOp.shli ArithUnit.vector (BitVec.setWidth 32 y) 23#32)
    = half y ++ half y := by
  show (y.setWidth 32 <<< 7) ||| (y.setWidth 32 <<< 23) = _
  unfold half
  apply BitVec.eq_of_getLsbD_eq
  intro t ht
  rw [append_bit]
  simp only [BitVec.getLsbD_or, BitVec.getLsbD_shiftLeft, BitVec.getLsbD_setWidth]
  by_cases h1 : t < 7
  · simp [h1, show t < 23 by omega, show t < 16 by omega]
  by_cases h2 : t < 16
  · simp [h1, show t < 23 by omega, h2, show t < 32 by omega, show t - 7 < 16 by omega, show t - 7 < 32 by omega]
  by_cases h3 : t < 23
  · simp [h1, h2, h3, show t - 16 < 7 by omega, show 8 ≤ t - 7 by omega, BitVec.getLsbD_of_ge]
  · simp [h1, h2, h3, show ¬ t - 16 < 7 by omega, show 8 ≤ t - 7 by omega, show t - 16 - 7 = t - 23 by omega, BitVec.getLsbD_of_ge,
      show t < 32 by omega, show t - 23 < 32 by omega, show t - 23 < 16 by omega, show t - 16 < 16 by omega]

theorem scaleRow_apply (x : IVec (M2 1 128) 32) (g : BitVec 16) (i : Fin 32) (j : Fin 128) (h : x (ix2 0 j) = g ++ g) :
    scaleRow (F := Ideal) x (ix2 i j) = Ideal.ofBits .bf16 g := by
  have hb : ∀ (y : (M2 16 128).Idx → BitVec 32) (hy : (M2 16 128).Bitcasts 32 (M2 32 128) 16), (∀ k : Fin 16, y (ix2 k j) = g ++ g) →
      bitcast (M2 32 128) 16 y hy (ix2 i j) = g := fun y hy hk => by
    rw [bitcast_32_16]
    have hi : (hy.srcIdx (ix2 i j) ((M2 32 128).row (ix2 i j) / 2) (fun a ha => by
        have := hy.pos_lt (ix2 i j) 0 (by decide) a ha; omega)) = ix2 (⟨i.val / 2, by omega⟩ : Fin 16) j := by
      funext a; apply Fin.ext
      fin_cases a <;> rfl
    rw [hi, hk]
    have hm := Nat.mod_two_eq_zero_or_one ((M2 32 128).row (ix2 i j))
    apply BitVec.eq_of_getLsbD_eq
    intro t ht
    rw [BitVec.getLsbD_extractLsb', append_bit]
    rcases hm with e | e <;> rw [e] <;> simp [ht]
  show Ideal.ofBits .bf16 (bitcast (M2 32 128) 16 (broadcastTo (M2 16 128) (shapeCast (M2 1 128) x rfl) (by decide)) (by decide) (ix2 i j)) = _
  rw [hb _ _ fun k => ?_]
  have : broadcastTo (M2 16 128) (shapeCast (M2 1 128) x rfl) (by decide) (ix2 k j) = x (ix2 0 j) := by pointwise
  rw [this, h]

/-- A tile times its scales, block of 32 rows by block. -/
theorem scale4_post (x : FVec Ideal (M2 128 128) .bf16) (row : (c : ℕ) → c < 4 → Prog (Op Ideal) (IVec (M2 1 128) 32)) (σ : Mem Ideal)
    (g : ℕ → Fin 128 → BitVec 16) (hr : ∀ c hc, Post (row c hc) σ fun w σ' => σ' = σ ∧ ∀ r, w (ix2 0 r) = g c r ++ g c r) :
    Post (scale4 x row) σ fun y σ' => σ' = σ ∧ ∀ d r : Fin 128, y (ix2 d r) = x (ix2 d r) * Ideal.ofBits .bf16 (g (d.val / 32) r) := by
  refine post_bind ((hr 0 (by decide)).mono fun w0 σ0 h0 => ?_)
  obtain ⟨rfl, h0⟩ := h0
  refine post_bind ((hr 1 (by decide)).mono fun w1 σ1 h1 => ?_)
  obtain ⟨rfl, h1⟩ := h1
  refine post_bind ((hr 2 (by decide)).mono fun w2 σ2 h2 => ?_)
  obtain ⟨rfl, h2⟩ := h2
  refine post_bind ((hr 3 (by decide)).mono fun w3 σ3 h3 => ?_)
  obtain ⟨rfl, h3⟩ := h3
  refine post_pure ⟨rfl, fun d r => ?_⟩
  have hm : ∀ (o : ℕ) (ho : (M2 128 128).Slices ![32 * o, 0] (M2 32 128)) (w : IVec (M2 1 128) 32), (∀ r, w (ix2 0 r) = g o r ++ g o r) → ∀ (i : Fin 32) (d r : Fin 128),
      d.val = 32 * o + i.val → mulf (extractStridedSlice (M2 32 128) ![32 * o, 0] x ho) (scaleRow w) (ix2 i r) = x (ix2 d r) * Ideal.ofBits .bf16 (g (d.val / 32) r) := by
    intro o ho w hw i d r hd
    show extractStridedSlice (M2 32 128) ![32 * o, 0] x ho (ix2 i r) * scaleRow w (ix2 i r) = _
    rw [scaleRow_apply w (g o r) i r (hw r), show d.val / 32 = o by omega]
    congr 1
    pointwise
    exact congrArg x (by funext a; apply Fin.ext; fin_cases a <;> simp [hd])
  have k0 := hm 0 (by decide) w0 h0
  have k1 := hm 1 (by decide) w1 h1
  have k2 := hm 2 (by decide) w2 h2
  have k3 := hm 3 (by decide) w3 h3
  generalize hp : (mulf (extractStridedSlice (M2 32 128) ![32 * 0, 0] x (by decide)) (scaleRow w0) : FVec Ideal (M2 32 128) .bf16) = p0 at k0
  generalize hq : (mulf (extractStridedSlice (M2 32 128) ![32 * 1, 0] x (by decide)) (scaleRow w1) : FVec Ideal (M2 32 128) .bf16) = p1 at k1
  generalize hs : (mulf (extractStridedSlice (M2 32 128) ![32 * 2, 0] x (by decide)) (scaleRow w2) : FVec Ideal (M2 32 128) .bf16) = p2 at k2
  generalize ht : (mulf (extractStridedSlice (M2 32 128) ![32 * 3, 0] x (by decide)) (scaleRow w3) : FVec Ideal (M2 32 128) .bf16) = p3 at k3
  have e : concatenate (M2 128 128) 0 [⟨M2 32 128, p0⟩, ⟨M2 32 128, p1⟩, ⟨M2 32 128, p2⟩, ⟨M2 32 128, p3⟩]
      (by decide : Shape.Concatenates [M2 32 128, M2 32 128, M2 32 128, M2 32 128] (M2 128 128) 0) (ix2 d r)
      = x (ix2 d r) * Ideal.ofBits .bf16 (g (d.val / 32) r) := by
    pointwise
    by_cases c0 : d.val < 32
    · rw [dif_pos c0]; exact k0 ⟨d.val, c0⟩ d r (by simp)
    rw [dif_neg c0]
    by_cases c1 : d.val - 32 < 32
    · rw [dif_pos c1]; exact k1 ⟨d.val - 32, c1⟩ d r (by simp only; omega)
    rw [dif_neg c1]
    by_cases c2 : d.val - 32 - 32 < 32
    · rw [dif_pos c2]; exact k2 ⟨d.val - 32 - 32, c2⟩ d r (by simp only; omega)
    rw [dif_neg c2]
    exact k3 ⟨d.val - 32 - 32 - 32, by omega⟩ d r (by simp only; omega)
  rw [← e, ← hp, ← hq, ← hs, ← ht]

end Cert.Mx

end
-- ==== Proof.Prelude.lean ====
module

public import proofs.«01_k».proof.Proof.Decode

@[expose] public section

noncomputable section

/-!
# What the prelude leaves

Decoded queries, keys and values as functions of the six input blocks. After the prelude the scratch buffers
hold the words of the query scales, the decoded keys, and the decoded values transposed.
-/

namespace Cert.Mx

open Idealize.ShloMosaic Idealize.SL.Sem

variable (I : Mem Ideal)

/-- A query element decoded: its code times the scale of its 32-element block. -/
def qd (h : Fin 7) (r : Fin 640) (d : Fin 128) : EReal :=
  I .q (ix4 (0 : Fin 1) h r d) * scaleOf (I .qs (ix4 (0 : Fin 1) h (⟨d.val / 32, by omega⟩ : Fin 4) r))
/-- A key element decoded. -/
def kd (y : Fin 640) (d : Fin 128) : EReal :=
  I .k (ix4 (0 : Fin 1) (0 : Fin 1) y d) * scaleOf (I .ks (ix4 (0 : Fin 1) (0 : Fin 1) (⟨d.val / 32, by omega⟩ : Fin 4) y))
/-- A value element decoded; its blocks run along the keys. -/
def vd (y : Fin 640) (d : Fin 128) : EReal :=
  I .v (ix4 (0 : Fin 1) (0 : Fin 1) y d) * scaleOf (I .vs (ix4 (0 : Fin 1) (0 : Fin 1) (⟨y.val / 32, by omega⟩ : Fin 20) d))

/-- The input blocks are those of `I`. -/
def Same (σ : Mem Ideal) : Prop := ∀ a : Slot, a.input → σ a = I a

variable {I}

theorem Same.of_keep {σ σ' : Mem Ideal} (h : Same I σ) (k : ∀ a : Slot, a.input → σ' a = σ a) : Same I σ' := fun a ha => (k a ha).trans (h a ha)

/-- The words of the first `n` heads' query scales. -/
def QWords (I σ : Mem Ideal) (n : ℕ) : Prop := ∀ (h : Fin 7) (c : Fin 4) (r : Fin 640), h.val < n →
  σ .qsw (ix3 h c r) = half (I .qs (ix4 (0 : Fin 1) h c r)) ++ half (I .qs (ix4 (0 : Fin 1) h c r))

theorem headWords_post {σ : Mem Ideal} {h : ℕ} (hh : h < 7) (hI : Same I σ) (hw : QWords I σ h) :
    Post (headWords h hh) σ fun _ σ' => QWords I σ' (h + 1) := by
  refine post_bind (post_ld (post_st ?_))
  intro h' c r hlt
  rw [Function.update_self]
  by_cases he : h'.val = h
  · refine (put_in3 (i := (0 : Fin 1)) (j := c) (k := r) (by simpa using he) (by simp) (by simp)).trans ?_
    pointwise
    rw [word_eq, hI .qs trivial]
    exact congrArg (fun z => half (I .qs (ix4 (0 : Fin 1) z c r)) ++ half (I .qs (ix4 (0 : Fin 1) z c r))) (Fin.ext he.symm)
  · exact (put_off3 (by omega)).trans (hw h' c r (by omega))

/-- The words of the key scales and of the value scales. -/
def KVWords (I σ : Mem Ideal) : Prop :=
  (∀ (c : Fin 4) (y : Fin 640), σ .ksw (ix2 c y) = half (I .ks (ix4 (0 : Fin 1) (0 : Fin 1) c y)) ++ half (I .ks (ix4 (0 : Fin 1) (0 : Fin 1) c y)))
  ∧ ∀ (b : Fin 20) (d : Fin 128), σ .vsw (ix2 b d) = half (I .vs (ix4 (0 : Fin 1) (0 : Fin 1) b d)) ++ half (I .vs (ix4 (0 : Fin 1) (0 : Fin 1) b d))

theorem kvWords_post {σ : Mem Ideal} (hI : Same I σ) (hw : QWords I σ 7) :
    Post kvWords σ fun _ σ' => QWords I σ' 7 ∧ KVWords I σ' := by
  refine post_bind (post_ld (post_bind (post_st (post_bind (post_ld (post_st ?_))))))
  refine ⟨fun h c r hlt => ?_, fun c y => ?_, fun b d => ?_⟩
  · rw [Function.update_of_ne (by decide), Function.update_of_ne (by decide)]
    exact hw h c r hlt
  · rw [Function.update_of_ne (by decide), Function.update_self]
    refine (put_in2 (i := c) (j := y) (by simp) (by simp)).trans ?_
    pointwise
    rw [word_eq, hI .ks trivial]
  · rw [Function.update_self]
    refine (put_in2 (i := b) (j := d) (by simp) (by simp)).trans ?_
    pointwise
    rw [Function.update_of_ne (by decide), word_eq, hI .vs trivial]

/-- The first `n` tiles of the keys and of the values decoded. -/
def Keys (I σ : Mem Ideal) (n : ℕ) : Prop := ∀ (y : Fin 640) (d : Fin 128), y.val < 128 * n → σ .kbf (ix2 y d) = kd I y d
def Vals (I σ : Mem Ideal) (n : ℕ) : Prop := ∀ (y : Fin 640) (d : Fin 128), y.val < 128 * n → σ .vt (ix2 d y) = vd I y d

theorem keyTile_post {σ : Mem Ideal} {t : ℕ} (ht : t < 5) (hI : Same I σ) (hq : QWords I σ 7) (hk : KVWords I σ) (h : Keys I σ t) (hv : Vals I σ t) :
    Post (keyTile t ht) σ fun _ σ' => QWords I σ' 7 ∧ KVWords I σ' ∧ Keys I σ' (t + 1) ∧ Vals I σ' t := by
  refine post_bind (post_ld (post_bind (Post.mono (scale4_post _ _ σ
    (fun c r => if hc : c < 4 then half (I .ks (ix4 (0 : Fin 1) (0 : Fin 1) (⟨c, hc⟩ : Fin 4) (⟨128 * t + r.val, by omega⟩ : Fin 640))) else 0) ?r) ?k)))
  case r =>
    intro c hc
    refine post_ld ⟨rfl, fun r => ?_⟩
    rw [dif_pos hc]
    exact (congrArg (σ .ksw) (unit2 (by simp) rfl)).trans (hk.1 ⟨c, hc⟩ ⟨128 * t + r.val, by omega⟩)
  case k =>
    rintro y σ' ⟨rfl, hy⟩
    refine post_st ⟨fun h' c r hlt => ?_, ⟨fun c z => ?_, fun b d => ?_⟩, fun z d hz => ?_, fun z d hz => ?_⟩
    · rw [Function.update_of_ne (by decide)]; exact hq h' c r hlt
    · rw [Function.update_of_ne (by decide)]; exact hk.1 c z
    · rw [Function.update_of_ne (by decide)]; exact hk.2 b d
    · rw [Function.update_self]
      by_cases hlt : z.val < 128 * t
      · exact (put_off2 (by omega)).trans (h z d hlt)
      · have hz' : z.val - 128 * t < 128 := by omega
        refine (put_in2 (i := (⟨z.val - 128 * t, hz'⟩ : Fin 128)) (j := d) (by simp only; omega) (by simp)).trans ?_
        have e : shapeCast (M2 128 128) (transpose (M2 128 128) [1, 0] y (by decide)) rfl (ix2 (⟨z.val - 128 * t, hz'⟩ : Fin 128) d) = y (ix2 d (⟨z.val - 128 * t, hz'⟩ : Fin 128)) := by pointwise
        refine e.trans ?_
        rw [hy, dif_pos (by omega)]
        have hzz : (⟨128 * t + (z.val - 128 * t), by omega⟩ : Fin 640) = z := Fin.ext (by simp only; omega)
        pointwise
        simp only [hzz, hI .k trivial]
        rfl
    · rw [Function.update_of_ne (by decide)]; exact hv z d hz

theorem valueTile_post {σ : Mem Ideal} {t : ℕ} (ht : t < 5) (hI : Same I σ) (hq : QWords I σ 7) (hk : KVWords I σ) (h : Keys I σ (t + 1)) (hv : Vals I σ t) :
    Post (valueTile t ht) σ fun _ σ' => QWords I σ' 7 ∧ KVWords I σ' ∧ Keys I σ' (t + 1) ∧ Vals I σ' (t + 1) := by
  refine post_bind (post_ld (post_bind (Post.mono (scale4_post _ _ σ
    (fun c r => if hc : c < 4 then half (I .vs (ix4 (0 : Fin 1) (0 : Fin 1) (⟨4 * t + c, by omega⟩ : Fin 20) r)) else 0) ?r) ?k)))
  case r =>
    intro c hc
    refine post_ld ⟨rfl, fun r => ?_⟩
    rw [dif_pos hc]
    exact (congrArg (σ .vsw) (unit2 (by simp) (by simp))).trans (hk.2 ⟨4 * t + c, by omega⟩ r)
  case k =>
    rintro y σ' ⟨rfl, hy⟩
    refine post_st ⟨fun h' c r hlt => ?_, ⟨fun c z => ?_, fun b d => ?_⟩, fun z d hz => ?_, fun z d hz => ?_⟩
    · rw [Function.update_of_ne (by decide)]; exact hq h' c r hlt
    · rw [Function.update_of_ne (by decide)]; exact hk.1 c z
    · rw [Function.update_of_ne (by decide)]; exact hk.2 b d
    · rw [Function.update_of_ne (by decide)]; exact h z d hz
    · rw [Function.update_self]
      by_cases hlt : z.val < 128 * t
      · exact (put_off2 (by omega)).trans (hv z d hlt)
      · have hz' : z.val - 128 * t < 128 := by omega
        refine (put_in2 (i := d) (j := (⟨z.val - 128 * t, hz'⟩ : Fin 128)) (by simp) (by simp only; omega)).trans ?_
        have e : shapeCast (M2 128 128) (transpose (M2 128 128) [1, 0] y (by decide)) rfl (ix2 d (⟨z.val - 128 * t, hz'⟩ : Fin 128)) = y (ix2 (⟨z.val - 128 * t, hz'⟩ : Fin 128) d) := by pointwise
        refine e.trans ?_
        rw [hy, dif_pos (by simp only; omega)]
        have hzz : (⟨128 * t + (z.val - 128 * t), by omega⟩ : Fin 640) = z := Fin.ext (by simp only; omega)
        have hbb : (⟨4 * t + (z.val - 128 * t) / 32, by omega⟩ : Fin 20) = ⟨z.val / 32, by omega⟩ := Fin.ext (by simp only; omega)
        pointwise
        simp only [hzz, hbb, hI .v trivial]
        rfl

variable (I) in
/-- What every query tile starts from: the inputs, the words of the query scales, the decoded keys and values. -/
def Ready (σ : Mem Ideal) : Prop :=
  Same I σ ∧ QWords I σ 7 ∧ (∀ (y : Fin 640) (d : Fin 128), σ .kbf (ix2 y d) = kd I y d) ∧ ∀ (y : Fin 640) (d : Fin 128), σ .vt (ix2 d y) = vd I y d

theorem prelude_post {σ : Mem Ideal} (hI : Same I σ) : Post (prelude (F := Ideal)) σ fun _ σ' => Ready I σ' := by
  refine post_bind (Post.mono (post_loop (fun n _ σ => Same I σ ∧ QWords I σ n) ⟨hI, fun h c r hlt => absurd hlt (by omega)⟩ fun h hh _ σ H => ?_) fun _ σ1 h1 => ?_)
  · exact ((headWords_post hh H.1 H.2).keep Slot.input (headWords_avoids h hh)).mono fun _ _ k => ⟨H.1.of_keep k.2, k.1⟩
  refine post_bind (Post.mono ((kvWords_post h1.1 h1.2).keep Slot.input kvWords_avoids) fun _ σ2 h2 => ?_)
  refine Post.mono (post_loop (fun n _ σ => Same I σ ∧ QWords I σ 7 ∧ KVWords I σ ∧ Keys I σ n ∧ Vals I σ n)
    ⟨h1.1.of_keep h2.2, h2.1.1, h2.1.2, fun y d h => absurd h (by omega), fun y d h => absurd h (by omega)⟩ fun t ht _ σ H => ?_) fun _ σ3 h3 => ?_
  · refine post_bind (Post.mono ((keyTile_post ht H.1 H.2.1 H.2.2.1 H.2.2.2.1 H.2.2.2.2).keep Slot.input (keyTile_avoids t ht)) fun _ σ4 h4 => ?_)
    have hs := H.1.of_keep h4.2
    exact ((valueTile_post ht hs h4.1.1 h4.1.2.1 h4.1.2.2.1 h4.1.2.2.2).keep Slot.input (valueTile_avoids t ht)).mono fun _ _ k => ⟨hs.of_keep k.2, k.1⟩
  · exact ⟨h3.1, h3.2.1, fun y d => h3.2.2.2.1 y d (by omega), fun y d => h3.2.2.2.2 y d (by omega)⟩

/-- A tile of queries decoded. -/
theorem queryTile_post {σ : Mem Ideal} {qi h : ℕ} (hq : qi < 5) (hh : h < 7) (hR : Ready I σ) :
    Post (queryTile qi hq h hh) σ fun x σ' => σ' = σ ∧ ∀ d r : Fin 128, x (ix2 d r) = qd I ⟨h, hh⟩ ⟨128 * qi + r.val, by omega⟩ d := by
  refine post_bind (post_ld (Post.mono (scale4_post _ _ σ
    (fun c r => if hc : c < 4 then half (I .qs (ix4 (0 : Fin 1) (⟨h, hh⟩ : Fin 7) (⟨c, hc⟩ : Fin 4) (⟨128 * qi + r.val, by omega⟩ : Fin 640))) else 0) ?r) ?k))
  case r =>
    intro c hc
    refine post_in ⟨rfl, fun r => ?_⟩
    rw [dif_pos hc]
    refine (congrArg (σ .qsw) (inner_idx (i' := (⟨h, hh⟩ : Fin 7)) (j' := (⟨c, hc⟩ : Fin 4)) (k' := (⟨128 * qi + r.val, by omega⟩ : Fin 640)) _ _ _ rfl ?_ ?_)).trans
      (hR.2.1 ⟨h, hh⟩ ⟨c, hc⟩ ⟨128 * qi + r.val, by omega⟩ hh)
    · show c = 0 + (c + 1 * 0); omega
    · show 128 * qi + r.val = 0 + (128 * qi + 1 * r.val); omega
  case k =>
    rintro y σ' ⟨rfl, hy⟩
    refine ⟨rfl, fun d r => ?_⟩
    rw [hy, dif_pos (by omega)]
    pointwise
    simp only [hR.1 .q trivial]
    rfl

end Cert.Mx

end
-- ==== Proof.Quant.lean ====
module

public import proofs.«01_k».proof.Proof.Tile
public import Idealize.ShloMosaic.Lib.Pointwise

@[expose] public section

noncomputable section

/-!
# The block quantiser

The search for a block's exponent, and what a probability becomes when it is scaled, clipped, and scaled
back: itself, as the clip does not bind and the two scales are inverse powers of two.
-/

namespace Cert.Mx

open Idealize.ShloMosaic

/-! ## Powers of two by their bit patterns -/

theorem ieee_pow (e m : ℕ) {w : ℕ} (b : BitVec w) (E : ℕ) (he : (b.extractLsb' m e).toNat = E) (hf : (b.extractLsb' 0 m).toNat = 0)
    (hs : b.extractLsb' (e + m) 1 = 0#1) (h0 : E ≠ 0) (h1 : E ≠ 2 ^ e - 1) :
    Ideal.ieee e m b = (((2 : ℝ) ^ ((E : ℤ) - (2 ^ (e - 1) - 1)) : ℝ) : EReal) := by
  unfold Ideal.ieee
  simp only [he, hf, hs]
  rw [if_neg h1, if_neg h0]
  have h : ((2 ^ m + 0 : ℕ) : ℝ) = (2 : ℝ) ^ (m : ℤ) := by rw [Nat.add_zero, zpow_natCast]; exact Nat.cast_pow 2 m
  have hb : ((0#1 : BitVec 1) == 1#1) = false := rfl
  rw [h, hb, if_neg Bool.false_ne_true, one_mul, ← zpow_add₀ two_ne_zero]
  exact congrArg (fun z : ℤ => (((2 : ℝ) ^ z : ℝ) : EReal)) (by omega)

theorem f32_pow (b : BitVec 32) (E : ℕ) (hb : b.toNat = 8388608 * E) (h0 : 0 < E) (h1 : E < 255) :
    Ideal.ofBits .f32 b = (((2 : ℝ) ^ ((E : ℤ) - 127) : ℝ) : EReal) := by
  have he : (b.extractLsb' 23 8).toNat = E := by
    simp only [BitVec.extractLsb'_toNat, hb, Nat.shiftRight_eq_div_pow]; omega
  have hf : (b.extractLsb' 0 23).toNat = 0 := by
    simp only [BitVec.extractLsb'_toNat, hb, Nat.shiftRight_eq_div_pow]; omega
  have hs : b.extractLsb' (8 + 23) 1 = 0#1 := by
    apply BitVec.eq_of_toNat_eq
    simp only [BitVec.extractLsb'_toNat, hb, Nat.shiftRight_eq_div_pow, BitVec.toNat_ofNat]; omega
  exact (ieee_pow 8 23 b E he hf hs (by omega) (by omega)).trans (congrArg (fun z : ℤ => (((2 : ℝ) ^ z : ℝ) : EReal)) (by norm_num))

theorem bf16_pow (b : BitVec 16) (E : ℕ) (hb : b.toNat = 128 * E) (h0 : 0 < E) (h1 : E < 255) :
    Ideal.ofBits .bf16 b = (((2 : ℝ) ^ ((E : ℤ) - 127) : ℝ) : EReal) := by
  have he : (b.extractLsb' 7 8).toNat = E := by
    simp only [BitVec.extractLsb'_toNat, hb, Nat.shiftRight_eq_div_pow]; omega
  have hf : (b.extractLsb' 0 7).toNat = 0 := by
    simp only [BitVec.extractLsb'_toNat, hb, Nat.shiftRight_eq_div_pow]; omega
  have hs : b.extractLsb' (8 + 7) 1 = 0#1 := by
    apply BitVec.eq_of_toNat_eq
    simp only [BitVec.extractLsb'_toNat, hb, Nat.shiftRight_eq_div_pow, BitVec.toNat_ofNat]; omega
  exact (ieee_pow 8 7 b E he hf hs (by omega) (by omega)).trans (congrArg (fun z : ℤ => (((2 : ℝ) ^ z : ℝ) : EReal)) (by norm_num))

/-! ## The search for the exponent -/

/-- After some halvings: `x` is the start times a power of two not above `2 ^ L`, and is below two. -/
def Found (x0 : ℝ) (L : ℕ) (x : EReal) (k : BitVec 32) : Prop :=
  ∃ m ≤ L, k = BitVec.ofNat 32 m ∧ x = ((x0 * 2 ^ m : ℝ) : EReal) ∧ x0 * 2 ^ m < 2

theorem Found.halve {s : Shape} {x0 : ℝ} {L : ℕ} (N : ℕ) (thr up : BitVec 32) (xk : FVec Ideal s .f32 × IVec s 32) (j : s.Idx)
    (h : Found x0 L (xk.1 j) (xk.2 j)) (ht : Ideal.ofBits .f32 thr = (((2 : ℝ) ^ (1 - (N : ℤ)) : ℝ) : EReal))
    (hu : Ideal.ofBits .f32 up = (((2 : ℝ) ^ (N : ℤ) : ℝ) : EReal)) :
    Found x0 (L + N) ((Mx.halve s thr up (BitVec.ofNat 32 N) xk).1 j) ((Mx.halve s thr up (BitVec.ofNat 32 N) xk).2 j) := by
  obtain ⟨m, hm, hk, hx, hlt⟩ := h
  show Found x0 (L + N) (Scalar.select (Ideal.cmp .olt (xk.1 j) (Ideal.ofBits .f32 thr)) (xk.1 j * Ideal.ofBits .f32 up) (xk.1 j))
    (Scalar.select (Ideal.cmp .olt (xk.1 j) (Ideal.ofBits .f32 thr)) (xk.2 j + BitVec.ofNat 32 N) (xk.2 j))
  rw [hk, hx, ht, hu]
  by_cases c : x0 * 2 ^ m < (2 : ℝ) ^ (1 - (N : ℤ))
  · rw [show Ideal.cmp .olt ((x0 * 2 ^ m : ℝ) : EReal) (((2 : ℝ) ^ (1 - (N : ℤ)) : ℝ) : EReal) = 1#1 by
      simp [Ideal.cmp, EReal.coe_lt_coe_iff.mpr c, -EReal.coe_mul, -EReal.coe_pow]]
    simp only [ValueIdx.select_one]
    have e : x0 * 2 ^ m * (2 : ℝ) ^ (N : ℤ) = x0 * 2 ^ (m + N) := by rw [zpow_natCast, pow_add]; ring
    refine ⟨m + N, by omega, by rw [BitVec.ofNat_add], by rw [← EReal.coe_mul, e], ?_⟩
    rw [← e]
    calc x0 * 2 ^ m * (2 : ℝ) ^ (N : ℤ) < (2 : ℝ) ^ (1 - (N : ℤ)) * (2 : ℝ) ^ (N : ℤ) := mul_lt_mul_of_pos_right c (by positivity)
      _ = 2 := by rw [← zpow_add₀ (by norm_num)]; simp
  · rw [show Ideal.cmp .olt ((x0 * 2 ^ m : ℝ) : EReal) (((2 : ℝ) ^ (1 - (N : ℤ)) : ℝ) : EReal) = 0#1 by
      simp [Ideal.cmp, EReal.coe_lt_coe_iff, c, -EReal.coe_mul, -EReal.coe_pow]]
    simp only [ValueIdx.select_zero]
    exact ⟨m, by omega, rfl, rfl, hlt⟩

theorem f32_pat (b : BitVec 32) (E : ℕ) (h0 : 0 < E) (h1 : E < 255) (hb : b.toNat = 8388608 * E) (z : ℤ) (hz : z = (E : ℤ) - 127) :
    Ideal.ofBits .f32 b = (((2 : ℝ) ^ z : ℝ) : EReal) := by rw [hz, f32_pow b E hb h0 h1]

/-- The field from what the halvings found. -/
def fieldOf (s : Shape) (x : FVec Ideal s .f32) (f : FVec Ideal s .f32 × IVec s 32) : IVec s 32 :=
  select (cmpf .oeq x (broadcast s (Scalar.ofBits .f32 0x00000000#32))) (broadcast s 1056964608#32)
    (shli (subi (broadcast s 127#32)
      (select (cmpf .olt f.1 (broadcast s (Scalar.ofBits .f32 0x3F800000#32))) (addi f.2 (broadcast s 1#32)) f.2)) (broadcast s 23#32))

theorem fieldOf_apply {s : Shape} (x : FVec Ideal s .f32) (j : s.Idx) {x0 : ℝ} (hx : x j = (x0 : EReal)) (f : FVec Ideal s .f32 × IVec s 32)
    (H6 : Found x0 126 (f.1 j) (f.2 j)) :
    ∃ k ≤ 127, (fieldOf s x f j).toNat = 8388608 * (127 - k) ∧ x0 * 2 ^ k ≤ 2 := by
  have hz : Ideal.ofBits .f32 0x00000000#32 = 0 := Ideal.ofBits_zero_f32
  obtain ⟨m, hm, hk, hf, hlt⟩ := H6
  show ∃ k ≤ 127, BitVec.toNat (Scalar.select (Ideal.cmp .oeq (x j) (Ideal.ofBits .f32 0x00000000#32)) 1056964608#32
    (IntOp.shli ArithUnit.vector (127#32 - Scalar.select (Ideal.cmp .olt (f.1 j) (Ideal.ofBits .f32 0x3F800000#32)) (f.2 j + 1#32) (f.2 j)) 23#32)) = _ ∧ _
  rw [hz, hk, hf, hx, Ideal.ofBits_one_f32]
  have hsh : ∀ k ≤ 127, (IntOp.shli ArithUnit.vector (127#32 - BitVec.ofNat 32 k) 23#32).toNat = 8388608 * (127 - k) := fun k hk => by
    show ((127#32 - BitVec.ofNat 32 k) <<< 23).toNat = _
    simp only [BitVec.toNat_shiftLeft, BitVec.toNat_sub, BitVec.toNat_ofNat, Nat.shiftLeft_eq]
    omega
  by_cases hx0 : x0 = 0
  · subst hx0
    refine ⟨1, by decide, ?_, by norm_num⟩
    rw [show Ideal.cmp .oeq ((0 : ℝ) : EReal) 0 = 1#1 by simp [Ideal.cmp], ValueIdx.select_one]
    decide
  rw [show Ideal.cmp .oeq (x0 : EReal) 0 = 0#1 by simp [Ideal.cmp, hx0], ValueIdx.select_zero]
  by_cases c : x0 * 2 ^ m < 1
  · refine ⟨m + 1, by omega, ?_, by rw [pow_succ]; linarith⟩
    rw [show Ideal.cmp .olt ((x0 * 2 ^ m : ℝ) : EReal) 1 = 1#1 by
      rw [show (1 : EReal) = ((1 : ℝ) : EReal) by norm_cast]; simp [Ideal.cmp, EReal.coe_lt_coe_iff.mpr c, -EReal.coe_mul, -EReal.coe_pow, -EReal.coe_one], ValueIdx.select_one, ← hsh _ (by omega), BitVec.ofNat_add]
  · refine ⟨m, by omega, ?_, hlt.le⟩
    rw [show Ideal.cmp .olt ((x0 * 2 ^ m : ℝ) : EReal) 1 = 0#1 by
      rw [show (1 : EReal) = ((1 : ℝ) : EReal) by norm_cast]; simp [Ideal.cmp, EReal.coe_lt_coe_iff, c, -EReal.coe_mul, -EReal.coe_pow, -EReal.coe_one], ValueIdx.select_zero, hsh _ (by omega)]

attribute [local irreducible] Mx.halve in
/-- The exponent field found for a block whose largest quotient is `x0`: a power of two bringing it to at most two. -/
theorem expField_apply {s : Shape} (x : FVec Ideal s .f32) (j : s.Idx) {x0 : ℝ} (hx : x j = (x0 : EReal)) (h0 : 0 ≤ x0) (h2 : x0 < 2) :
    ∃ k ≤ 127, (expField s x j).toNat = 8388608 * (127 - k) ∧ x0 * 2 ^ k ≤ 2 := by
  have H0 : Found x0 0 (((x, broadcast s 0#32) : FVec Ideal s .f32 × IVec s 32).1 j) (((x, broadcast s 0#32) : FVec Ideal s .f32 × IVec s 32).2 j) := ⟨0, le_rfl, rfl, by simpa using hx, by simpa using h2⟩
  have H1 := Found.halve (s := s) 64 0x20000000#32 0x5F800000#32 (x, broadcast s 0#32) j H0
    (f32_pat _ 64 (by decide) (by decide) (by decide) _ (by norm_num)) (f32_pat _ 191 (by decide) (by decide) (by decide) _ (by norm_num))
  have H2 := Found.halve 32 0x30000000#32 0x4F800000#32 _ j H1
    (f32_pat _ 96 (by decide) (by decide) (by decide) _ (by norm_num)) (f32_pat _ 159 (by decide) (by decide) (by decide) _ (by norm_num))
  have H3 := Found.halve 16 0x38000000#32 0x47800000#32 _ j H2
    (f32_pat _ 112 (by decide) (by decide) (by decide) _ (by norm_num)) (f32_pat _ 143 (by decide) (by decide) (by decide) _ (by norm_num))
  have H4 := Found.halve 8 0x3C000000#32 0x43800000#32 _ j H3
    (f32_pat _ 120 (by decide) (by decide) (by decide) _ (by norm_num)) (f32_pat _ 135 (by decide) (by decide) (by decide) _ (by norm_num))
  have H5 := Found.halve 4 0x3E000000#32 0x41800000#32 _ j H4
    (f32_pat _ 124 (by decide) (by decide) (by decide) _ (by norm_num)) (f32_pat _ 131 (by decide) (by decide) (by decide) _ (by norm_num))
  have H6 := Found.halve 2 0x3F000000#32 0x40800000#32 _ j H5
    (f32_pat _ 126 (by decide) (by decide) (by decide) _ (by norm_num)) (f32_pat _ 129 (by decide) (by decide) (by decide) _ (by norm_num))
  exact fieldOf_apply x j hx _ H6

end Cert.Mx

end
-- ==== Proof.Prob.lean ====
module

public import proofs.«01_k».proof.Proof.Quant

@[expose] public section

noncomputable section

/-!
# Probabilities

One query's softmax over `n` scores `S`: exponentials against the largest score, their sum, its reciprocal. A
score may be infinite. Then the quantised and rescaled probability of a key is the probability.
-/

namespace Cert.Mx

open Idealize.ShloMosaic

/-! ## Constants -/

theorem codeMax : Ideal.ofBits .f32 0x47600000#32 = ((57344 : ℝ) : EReal) := by
  simp [Ideal.ofBits, Ideal.ieee, -EReal.coe_mul]; norm_num
theorem codeMin : Ideal.ofBits .f32 0xC7600000#32 = ((-57344 : ℝ) : EReal) := by
  simp [Ideal.ofBits, Ideal.ieee, -EReal.coe_mul, -EReal.coe_neg]; norm_num
/-- The reciprocal of the largest code, rounded up. -/
def invCode : ℝ := 9586981 / 549755813888
theorem invCode_eq : Ideal.ofBits .f32 0x37924925#32 = (invCode : EReal) := by
  unfold invCode
  simp [Ideal.ofBits, Ideal.ieee, -EReal.coe_mul]; norm_num
theorem minusInf : Ideal.ofBits .f32 0xFF800000#32 = ⊥ := by
  simp [Ideal.ofBits, Ideal.ieee]

/-! ## The exponential -/

theorem exp2_mono {a b : EReal} (h : a ≤ b) : Ideal.exp2 a ≤ Ideal.exp2 b := by
  induction a using EReal.rec with
  | bot =>
    show (0 : EReal) ≤ _
    induction b using EReal.rec with
    | bot => exact le_rfl
    | top => exact le_top
    | coe b => exact EReal.coe_nonneg.mpr (Real.rpow_nonneg (by norm_num) b)
  | top => rw [top_le_iff.mp h]
  | coe a =>
    induction b using EReal.rec with
    | bot => exact absurd h (by simp)
    | top => exact le_top
    | coe b => exact EReal.coe_le_coe_iff.mpr (Real.rpow_le_rpow_of_exponent_le (by norm_num) (EReal.coe_le_coe_iff.mp h))

theorem exp2_nonneg (a : EReal) : 0 ≤ Ideal.exp2 a := by
  have : Ideal.exp2 ⊥ ≤ Ideal.exp2 a := exp2_mono bot_le
  exact this

theorem exp2_zero : Ideal.exp2 0 = 1 := by
  show ((Real.rpow 2 0 : ℝ) : EReal) = 1
  simp

section Softmax

variable (c : ℝ) (m : EReal)

/-- The exponential of a score against the largest. -/
def wt (a : EReal) : EReal := Ideal.exp2 (a * (c : EReal) - m * (c : EReal))

variable {c m}

theorem wt_mono (hc : 0 < c) {a b : EReal} (h : a ≤ b) : wt c m a ≤ wt c m b :=
  exp2_mono (EReal.sub_le_sub (mul_le_mul_of_nonneg_right h (EReal.coe_nonneg.mpr hc.le)) le_rfl)

theorem wt_le_one (hc : 0 < c) {a : EReal} (h : a ≤ m) : wt c m a ≤ 1 := by
  refine (wt_mono hc h).trans ?_
  unfold wt
  have : m * (c : EReal) - m * (c : EReal) ≤ 0 := EReal.sub_self_le_zero
  exact (exp2_mono this).trans_eq exp2_zero

theorem wt_real (hc : 0 < c) {a : EReal} (h : a ≤ m) : ∃ e : ℝ, wt c m a = (e : EReal) ∧ 0 ≤ e ∧ e ≤ 1 := by
  have h1 := wt_le_one hc h
  have h0 : 0 ≤ wt c m a := exp2_nonneg _
  generalize wt c m a = z at h0 h1
  induction z using EReal.rec with
  | bot => exact absurd h0 (by simp)
  | top => exact absurd h1 (by decide)
  | coe e => exact ⟨e, rfl, EReal.coe_nonneg.mp h0, by exact_mod_cast h1⟩

end Softmax

/-! ## A quantised probability -/

/-- One code and its scale multiplied again, for an exponential `e` not above its block's `t`. -/
theorem code_eq {e t r x0 : ℝ} (he : 0 ≤ e) (het : e ≤ t) (hr : 0 ≤ r) (hx : x0 = t * r * invCode) {k : ℕ} (hk : x0 * 2 ^ k ≤ 2) :
    min (57344 : ℝ) (max (-57344) (e * (r * (2 : ℝ) ^ ((126 + k : ℤ) - 127)))) * (2 : ℝ) ^ ((128 - k : ℤ) - 127) = e * r := by
  have h2 : (2 : ℝ) ^ ((126 + k : ℤ) - 127) = 2 ^ k / 2 := by
    rw [show ((126 + k : ℤ) - 127) = (k : ℤ) - 1 by ring, zpow_sub₀ two_ne_zero]; simp
  have h3 : (2 : ℝ) ^ ((128 - k : ℤ) - 127) = 2 / 2 ^ k := by
    rw [show ((128 - k : ℤ) - 127) = 1 - (k : ℤ) by ring, zpow_sub₀ two_ne_zero]; simp
  have hp : (0 : ℝ) < 2 ^ k := by positivity
  rw [h2, h3]
  have hle : e * (r * (2 ^ k / 2)) ≤ 57344 := by
    have h5 : e * r ≤ t * r := mul_le_mul_of_nonneg_right het hr
    have h6 : t * r * invCode * 2 ^ k ≤ 2 := by rw [← hx]; exact hk
    have h7 : (1 : ℝ) ≤ invCode * 57344 := by unfold invCode; norm_num
    have h8 : 0 ≤ t * r := mul_nonneg (he.trans het) hr
    have h9 : t * r * 2 ^ k ≤ t * r * 2 ^ k * (invCode * 57344) := le_mul_of_one_le_right (by positivity) h7
    have h10 : e * r * 2 ^ k ≤ t * r * 2 ^ k := mul_le_mul_of_nonneg_right h5 hp.le
    nlinarith
  have hge : (-57344 : ℝ) ≤ e * (r * (2 ^ k / 2)) := le_trans (by norm_num) (by positivity : (0 : ℝ) ≤ e * (r * (2 ^ k / 2)))
  rw [max_eq_right hge, min_eq_right hle]
  field_simp

/-- The largest probability of a block over the largest code is a real number from zero to below two, and each
    probability of the block is its code times its scale. -/
theorem block_quant {c : ℝ} (hc : 0 < c) {n : ℕ} (S : ℕ → EReal) {B : Finset ℕ} (hB : B.Nonempty) (hBn : B ⊆ Finset.range n) {m tot r : EReal}
    (hm : m = (Finset.range n).sup S) (htot : tot = ∑ y ∈ Finset.range n, wt c m (S y)) (hr : r = Ideal.div 1 tot) :
    ∃ x0 : ℝ, wt c m (B.sup S) * r * (invCode : EReal) = (x0 : EReal) ∧ 0 ≤ x0 ∧ x0 < 2 ∧
      ∀ y ∈ B, ∀ k : ℕ, x0 * 2 ^ k ≤ 2 →
        min (Ideal.ofBits .f32 0x47600000#32) (max (Ideal.ofBits .f32 0xC7600000#32)
          (wt c m (S y) * (r * (((2 : ℝ) ^ ((126 + k : ℤ) - 127) : ℝ) : EReal)))) * (((2 : ℝ) ^ ((128 - k : ℤ) - 127) : ℝ) : EReal) = wt c m (S y) * r := by
  have hle : ∀ y ∈ Finset.range n, S y ≤ m := fun y hy => hm ▸ Finset.le_sup hy
  have hBm : B.sup S ≤ m := Finset.sup_le fun y hy => hle y (hBn hy)
  obtain ⟨t, ht, ht0, ht1⟩ := wt_real hc hBm
  obtain ⟨y0, hy0, hsup⟩ := Finset.exists_mem_eq_sup B hB S
  have hnn : ∀ y ∈ Finset.range n, 0 ≤ wt c m (S y) := fun y _ => exp2_nonneg _
  have htt : wt c m (B.sup S) ≤ tot := by
    rw [hsup, htot]
    exact Finset.single_le_sum hnn (hBn hy0)
  have htr : ∃ T : ℝ, tot = (T : EReal) := by
    rw [htot]
    have : ∀ y ∈ Finset.range n, wt c m (S y) = ((wt c m (S y)).toReal : EReal) := fun y hy => by
      obtain ⟨e, he, -, -⟩ := wt_real hc (hle y hy)
      rw [he, EReal.toReal_coe]
    rw [Finset.sum_congr rfl this]
    exact ⟨∑ y ∈ Finset.range n, (wt c m (S y)).toReal, by
      induction Finset.range n using Finset.cons_induction with
      | empty => simp
      | cons a s ha ih => rw [Finset.sum_cons, Finset.sum_cons, EReal.coe_add, ← ih]⟩
  obtain ⟨T, hT⟩ := htr
  rw [ht, hT] at htt
  have htT : t ≤ T := EReal.coe_le_coe_iff.mp htt
  rw [ht]
  rw [codeMax, codeMin]
  by_cases h0 : T = 0
  · have : t = 0 := le_antisymm (htT.trans h0.le) ht0
    subst this
    refine ⟨0, by simp, le_rfl, by norm_num, fun y hy k hk => ?_⟩
    have : wt c m (S y) = 0 := le_antisymm (by rw [← EReal.coe_zero, ← ht]; exact wt_mono hc (Finset.le_sup hy)) (exp2_nonneg _)
    rw [this, zero_mul, zero_mul]
    rw [max_eq_right (by rw [← EReal.coe_zero]; exact EReal.coe_le_coe_iff.mpr (by norm_num)),
      min_eq_right (by rw [← EReal.coe_zero]; exact EReal.coe_le_coe_iff.mpr (by norm_num)), zero_mul]
  · have hTp : 0 < T := lt_of_le_of_ne (ht0.trans htT) (Ne.symm h0)
    have hr' : r = ((1 / T : ℝ) : EReal) := by
      rw [hr, hT]
      unfold Ideal.div
      rw [if_neg (by exact_mod_cast h0), one_mul, ← EReal.coe_inv, one_div]
    rw [hr']
    have hq : t * (1 / T) ≤ 1 := by rw [mul_one_div, div_le_one hTp]; exact htT
    refine ⟨t * (1 / T) * invCode, by norm_cast, by unfold invCode; positivity, ?_, fun y hy k hk => ?_⟩
    · have : t * (1 / T) * invCode ≤ 1 * invCode := mul_le_mul_of_nonneg_right hq (by unfold invCode; norm_num)
      refine lt_of_le_of_lt this ?_
      unfold invCode; norm_num
    · obtain ⟨e, he, he0, he1⟩ := wt_real hc (hle y (hBn hy))
      have het : e ≤ t := by
        rw [← EReal.coe_le_coe_iff, ← he, ← ht]; exact wt_mono hc (Finset.le_sup hy)
      rw [he, ← EReal.coe_mul, ← EReal.coe_mul, ← EReal.coe_strictMono.monotone.map_max, ← EReal.coe_strictMono.monotone.map_min, ← EReal.coe_mul, ← EReal.coe_mul]
      exact congrArg _ (code_eq he0 het (by positivity) rfl hk)

end Cert.Mx

end
-- ==== Proof.Column.lean ====
module

public import proofs.«01_k».proof.Proof.Prelude
public import proofs.«01_k».proof.Proof.Prob

@[expose] public section

noncomputable section

/-!
# One column

The softmax of one head for 128 queries, as the three sweeps over the blocks of scores compute it.
-/

namespace Cert.Mx

open Idealize.ShloMosaic Idealize.SL.Sem

/-- The score of key `y` for query `x` of tile `qi`, minus infinity for a later key. -/
def causal (qi : ℕ) (S : ℕ → Fin 128 → EReal) (x : Fin 128) (y : ℕ) : EReal := if y ≤ 128 * qi + x.val then S y x else ⊥

theorem sle_iff {a b : ℕ} (ha : a < 1024) (hb : b < 1024) : IntOp.cmpi .sle (BitVec.ofNat 32 a) (BitVec.ofNat 32 b) = if a ≤ b then 1#1 else 0#1 := by
  show BitVec.ofBool (BitVec.sle (BitVec.ofNat 32 a) (BitVec.ofNat 32 b)) = _
  have h : ∀ n < 1024, (BitVec.ofNat 32 n).toInt = (n : ℤ) := fun n hn => by
    rw [BitVec.toInt_eq_toNat_cond, BitVec.toNat_ofNat]; omega
  rw [BitVec.sle_eq_decide, h a ha, h b hb]
  by_cases hab : a ≤ b <;> simp [hab]

theorem slt_iff {a b : ℕ} (ha : a < 1024) (hb : b < 1024) : IntOp.cmpi .slt (BitVec.ofNat 32 a) (BitVec.ofNat 32 b) = if a < b then 1#1 else 0#1 := by
  show BitVec.ofBool (BitVec.slt (BitVec.ofNat 32 a) (BitVec.ofNat 32 b)) = _
  have h : ∀ n < 1024, (BitVec.ofNat 32 n).toInt = (n : ℤ) := fun n hn => by
    rw [BitVec.toInt_eq_toNat_cond, BitVec.toNat_ofNat]; omega
  rw [BitVec.slt_eq_decide, h a ha, h b hb]
  by_cases hab : a < b <;> simp [hab]

/-! ## Reads at any size -/

theorem slice2 {α : Type} {x y a b d e : ℕ} (v : (M2 x y).Idx → α) (h : (M2 x y).Slices ![a, b] (M2 d e)) (i : Fin d) (j : Fin e) {i' : Fin x} {j' : Fin y}
    (h0 : i'.val = a + i.val) (h1 : j'.val = b + j.val) : extractStridedSlice (M2 d e) ![a, b] v h (ix2 i j) = v (ix2 i' j') := by
  unfold extractStridedSlice
  refine congrArg v (funext fun t => Fin.ext ?_)
  fin_cases t
  · exact h0.symm
  · exact h1.symm

/-- A row repeated. -/
theorem rows {α : Type} {a b : ℕ} (v : (M2 1 b).Idx → α) (h : (M2 1 b).Broadcasts (M2 a b)) (i : Fin a) (j : Fin b) :
    broadcastTo (M2 a b) v h (ix2 i j) = v (ix2 (0 : Fin 1) j) := ValueIdx.broadcastTo_1b_ab_apply v h i j

/-- The largest of each column. -/
theorem colsMax {a b : ℕ} (v : FVec Ideal (M2 a b) .f32) (h : (M2 a b).Reduces [0] (M1 b)) (j : Fin b) :
    shapeCast (M2 1 b) (multiReduction .maximumf [0] (M1 b) v 0xFF800000#32 h (.inl rfl) rfl) (casts1 b) (ix2 (0 : Fin 1) j)
      = Finset.univ.sup fun i : Fin a => v (ix2 i j) := by
  refine (ValueIdx.shapeCast_a_1a_apply _ _ _ _).trans ?_
  refine (multiReduction_maximumf_eq_fold _ _ _ _ _ _).trans ?_
  refine (Shape.Reduces.fold_fiber_r2_a0 h _ _ _ _).trans ?_
  rw [show FloatOps.ofBits (F := Ideal) .f32 0xFF800000#32 = ⊥ from minusInf]
  rfl

section

variable {qi W c : ℕ} {S : ℕ → Fin 128 → EReal}

theorem masked_apply (hq : qi < 5) (hW : 128 * c + 128 ≤ W) {s : FVec Ideal (M2 (nk qi) W) .f32}
    (hs : ∀ (y : Fin (nk qi)) (x : Fin 128), s (ix2 y (⟨128 * c + x.val, by omega⟩ : Fin W)) = S y.val x) {b : ℕ} (hb : b < nb qi) (i : Fin 32) (x : Fin 128) :
    masked qi W c hW s b hb (ix2 i x) = causal qi S x (32 * b + i.val) := by
  have hy : 32 * b + i.val < nk qi := by simp only [nb, nk] at *; omega
  have hx : extractStridedSlice (M2 32 128) ![32 * b, 128 * c] s (slices2 (by simp only [nk, nb] at *; omega) hW) (ix2 i x) = S (32 * b + i.val) x := by
    rw [← hs ⟨32 * b + i.val, hy⟩ x]
    exact slice2 _ _ _ _ rfl rfl
  unfold masked causal
  by_cases h : 128 * qi ≤ 32 * b
  · rw [if_pos h]
    have e0 : iota .tc (M2 32 128) 32 [0] (by decide) (ix2 i x) = BitVec.ofNat 32 i.val := by pointwise
    have e1 : iota .tc (M2 32 128) 32 [1] (by decide) (ix2 i x) = BitVec.ofNat 32 x.val := by pointwise
    show Scalar.select (IntOp.cmpi .sle (iota .tc (M2 32 128) 32 [0] (by decide) (ix2 i x) + BitVec.ofNat 32 (32 * b - 128 * qi)) (iota .tc (M2 32 128) 32 [1] (by decide) (ix2 i x))) _ _ = _
    rw [e0, e1, hx, ← BitVec.ofNat_add, sle_iff (by simp only [nb] at hb; omega) (by omega)]
    by_cases h2 : i.val + (32 * b - 128 * qi) ≤ x.val
    · rw [if_pos h2, if_pos (by omega), ValueIdx.select_one]
    · rw [if_neg h2, if_neg (by omega), ValueIdx.select_zero]
      exact minusInf
  · rw [if_neg h, hx, if_pos (by omega)]

end

/-! ## First sweep -/

/-- The keys of block `b`. -/
def blk (b : ℕ) : Finset ℕ := Finset.Ico (32 * b) (32 * b + 32)

section

variable {qi W c : ℕ} {T : Fin 128 → ℕ → EReal}

/-- After `n` blocks: the scores kept, and the partial maxima of each block's eight residues. -/
def First (T : Fin 128 → ℕ → EReal) (c : ℕ) (hc : c < 2) (n : ℕ) (σ : Mem Ideal) : Prop :=
  (∀ (y : Fin 640) (x : Fin 128), y.val < 32 * n → σ .s (ix3 (⟨c, hc⟩ : Fin 2) y x) = T x y.val) ∧
  ∀ (b i : ℕ) (x : Fin 128) (hi : i < 8) (hl : b + 25 * i < 200), b < n →
    σ .slab (ix3 (⟨c, hc⟩ : Fin 2) (⟨b + 25 * i, hl⟩ : Fin 200) x) = (Finset.univ : Finset (Fin 4)).sup fun g => T x (32 * b + (8 * g.val + i))

theorem groupMax (M : FVec Ideal (M2 32 128) .f32) (i : Fin 8) (x : Fin 128) :
    shapeCast (M2 8 128) (multiReduction .maximumf [0] (M2 8 128) (shapeCast (M3 4 8 128) M (by decide)) 0xFF800000#32 (by decide) (.inl rfl) rfl) rfl (ix2 i x)
      = (Finset.univ : Finset (Fin 4)).sup fun g => M (ix2 (⟨8 * g.val + i.val, by omega⟩ : Fin 32) x) := by
  pointwise
  rw [minusInf]
  refine Finset.sup_congr rfl fun g _ => congrArg M (congrArg (fun z => ix2 z x) (Fin.ext ?_))
  simp only
  omega

theorem sweep1_post (hq : qi < 5) (hc : c < 2) (hW : 128 * c + 128 ≤ W) (s : FVec Ideal (M2 (nk qi) W) .f32)
    (hM : ∀ (b : ℕ) (hb : b < nb qi) (i : Fin 32) (x : Fin 128), masked qi W c hW s b hb (ix2 i x) = T x (32 * b + i.val))
    {σ : Mem Ideal} {b : ℕ} (hb : b < nb qi) (h : First T c hc b σ) :
    Post (sweep1 qi W c hq hc hW s b hb (PUnit.unit : PUnit.{1})) σ fun _ σ' => First T c hc (b + 1) σ' := by
  have hb25 : b < 25 := by simp only [nb] at hb; omega
  unfold sweep1
  have hMb := hM b hb
  generalize masked qi W c hW s b hb = M at hMb
  refine post_bind (post_st (post_bind (post_in (post_sin ⟨fun y x hy => ?_, fun b' i x hi hl hb' => ?_⟩))))
  · rw [Function.update_of_ne (by decide), Function.update_self]
    by_cases hlt : y.val < 32 * b
    · exact (put_off3 (by omega)).trans (h.1 y x hlt)
    · refine (put_in3 (i := (0 : Fin 1)) (j := (⟨y.val - 32 * b, by omega⟩ : Fin 32)) (k := x) (by simp) (by simp only; omega) (by simp)).trans ?_
      refine (ValueIdx.shapeCast_ab_1ab_apply _ _ _ _ _).trans ((hMb _ _).trans (congrArg (T x) ?_))
      simp only
      omega
  · rw [Function.update_self, Function.update_of_ne (by decide)]
    by_cases he : b' = b
    · subst he
      rw [← inner_idx (inb := inb3 (a := c) (b := 0) (c := 0) (d := 1) (e := 200) (f := 128) (by omega) (by decide) (by decide)) squeezes200 (slabRect b' hb25) (ix2 (⟨i, hi⟩ : Fin 8) x) rfl
        (by show b' + 25 * i = 0 + (b' + 25 * i); omega) (by show x.val = 0 + (0 + 1 * x.val); omega)]
      refine (put_at ?_ _ _ _).trans ?_
      · exact ((Rect.unit (s := M3 2 200 128) ![c, 0, 0] ![1, 200, 128] _).emb.injective.comp (Equiv.injective _)).comp
          (Rect.mk (slabRect b' hb25) (by decide : ∀ a : Fin 2, 0 < (![25, 1] : Fin 2 → ℕ) a)).emb.injective
      · refine (groupMax M ⟨i, hi⟩ x).trans (Finset.sup_congr rfl fun g _ => hMb _ _)
    · refine (put_off _ _ fun j hj => he ?_).trans (h.2 b' i x hi hl (by omega))
      have l0 : (j 0).val < 8 := (j 0).isLt
      rw [inner_idx (i' := (⟨c, hc⟩ : Fin 2)) (j' := (⟨b + 25 * (j 0).val, by omega⟩ : Fin 200)) (k' := (⟨(j 1).val, (j 1).isLt⟩ : Fin 128)) squeezes200 (slabRect b hb25) j rfl
        (by show b + 25 * (j 0).val = 0 + (b + 25 * (j 0).val); omega) (by show (j 1).val = 0 + (0 + 1 * (j 1).val); omega)] at hj
      have e : b + 25 * (j 0).val = b' + 25 * i := congrArg (fun q : (M3 2 200 128).Idx => (q 1).val) hj
      simp only [nb] at hb
      omega

/-- The largest score of each block. -/
theorem blockMax_post (hq : qi < 5) (hc : c < 2) {σ : Mem Ideal} (h : First T c hc (nb qi) σ) :
    Post (blockMax qi c hq hc) σ fun bm σ' => σ' = σ ∧ ∀ (b : Fin (nbp qi)) (x : Fin 128), b.val < nb qi → bm (ix2 b x) = (blk b.val).sup (T x) := by
  have hn := nbp_le hq
  have hrow : ∀ (n : ℕ) (hn8 : n < 8) (inb) (b : Fin (nbp qi)) (x : Fin 128), b.val < nb qi →
      shapeCast (M2 (nbp qi) 128) ((fun j => σ .slab ((Rect.unit (s := M3 2 200 128) ![c, 25 * n, 0] ![1, nbp qi, 128] inb).toLoadRect.idx j) : FVec Ideal (M3 1 (nbp qi) 128) .f32)) (casts3 _ _) (ix2 b x)
        = (Finset.univ : Finset (Fin 4)).sup fun g => T x (32 * b.val + (8 * g.val + n)) := by
    intro n hn8 inb b x hb
    refine (ValueIdx.shapeCast_1ab_ab_apply _ _ _ _).trans ?_
    refine (congrArg (σ .slab) (unit3 (i' := (⟨c, hc⟩ : Fin 2)) (j' := (⟨b.val + 25 * n, by omega⟩ : Fin 200)) (k' := x) (by simp) (by simp only; omega) (by simp))).trans ?_
    exact h.2 b.val n x hn8 _ hb
  refine post_bind (post_ld (Post.mono (post_loop (fun t (acc : FVec Ideal (M2 (nbp qi) 128) .f32) σ' => σ' = σ ∧ ∀ (b : Fin (nbp qi)) (x : Fin 128), b.val < nb qi →
    acc (ix2 b x) = (Finset.range (t + 1)).sup fun i => (Finset.univ : Finset (Fin 4)).sup fun g => T x (32 * b.val + (8 * g.val + i))) ⟨rfl, fun b x hb => ?_⟩ fun t ht acc σ' H => ?_) fun bm σ' H => ⟨H.1, fun b x hb => ?_⟩))
  · refine (hrow 0 (by decide) _ b x hb).trans ?_
    simp
  · obtain ⟨rfl, H⟩ := H
    refine post_bind (post_ld (post_pure ⟨rfl, fun b x hb => ?_⟩))
    have e := hrow (t + 1) (by omega) (inb3 (by omega) (by omega) (by decide)) b x hb
    rw [Finset.range_add_one, Finset.sup_insert, ← H b x hb, ← e]
    exact max_comm _ _
  · rw [H.2 b x hb]
    refine le_antisymm (Finset.sup_le fun i hi => Finset.sup_le fun g _ => Finset.le_sup (f := T x) ?_) (Finset.sup_le fun y hy => ?_)
    · have := Finset.mem_range.mp hi
      exact Finset.mem_Ico.mpr (by omega)
    · have hy := Finset.mem_Ico.mp hy
      have h1 : (y - 32 * b.val) % 8 ∈ Finset.range (7 + 1) := Finset.mem_range.mpr (by omega)
      refine le_trans ?_ (Finset.le_sup (f := fun i => (Finset.univ : Finset (Fin 4)).sup fun g => T x (32 * b.val + (8 * g.val + i))) h1)
      refine le_trans (le_of_eq (congrArg (T x) ?_)) (Finset.le_sup (f := fun g : Fin 4 => T x (32 * b.val + (8 * g.val + (y - 32 * b.val) % 8))) (Finset.mem_univ (⟨(y - 32 * b.val) / 8, by omega⟩ : Fin 4)))
      simp only
      omega

theorem realMax_apply (hq : qi < 5) (bm : FVec Ideal (M2 (nbp qi) 128) .f32)
    (h : ∀ (b : Fin (nbp qi)) (x : Fin 128), b.val < nb qi → bm (ix2 b x) = (blk b.val).sup (T x)) (b : Fin (nbp qi)) (x : Fin 128) :
    realMax qi bm (ix2 b x) = if b.val < nb qi then (blk b.val).sup (T x) else ⊥ := by
  have hn := nbp_le hq
  show Scalar.select (IntOp.cmpi .slt (iota .tc (M2 (nbp qi) 128) 32 [0] (iotas2 _ _) (ix2 b x)) (BitVec.ofNat 32 (nb qi))) (bm (ix2 b x)) (Ideal.ofBits .f32 0xFF800000#32) = _
  rw [show iota .tc (M2 (nbp qi) 128) 32 [0] (iotas2 _ _) (ix2 b x) = BitVec.ofNat 32 b.val by
    rw [iota_apply]; exact congrArg (BitVec.ofNat 32) (by simp), slt_iff (by omega) (by simp only [nb]; omega)]
  by_cases hb : b.val < nb qi
  · rw [if_pos hb, if_pos hb, ValueIdx.select_one, h b x hb]
  · rw [if_neg hb, if_neg hb, ValueIdx.select_zero, minusInf]

/-- The largest score of each column, times the constant. -/
theorem colMax_apply (hq : qi < 5) (cexp : EReal) (bm : FVec Ideal (M2 (nbp qi) 128) .f32)
    (h : ∀ (b : Fin (nbp qi)) (x : Fin 128), b.val < nb qi → bm (ix2 b x) = (blk b.val).sup (T x)) (x : Fin 128) :
    colMax (F := Ideal) cexp qi (realMax qi bm) (ix2 (0 : Fin 1) x) = (Finset.range (nk qi)).sup (T x) * cexp := by
  refine congrArg (· * cexp) ((colsMax _ _ _).trans ?_)
  have hn := nbp_le hq
  refine (Finset.sup_congr rfl fun b _ => realMax_apply hq bm h b x).trans (le_antisymm (Finset.sup_le fun b _ => ?_) (Finset.sup_le fun y hy => ?_))
  · by_cases hb : b.val < nb qi
    · rw [if_pos hb]
      refine Finset.sup_mono fun y hy => ?_
      have hy := Finset.mem_Ico.mp hy
      exact Finset.mem_range.mpr (by simp only [nb, nk] at *; omega)
    · rw [if_neg hb]; exact bot_le
  · have hy := Finset.mem_range.mp hy
    have h1 := nb_le_nbp qi
    have hb : y / 32 < nb qi := by simp only [nb, nk] at *; omega
    refine le_trans ?_ (Finset.le_sup (f := fun b : Fin (nbp qi) => if b.val < nb qi then (blk b.val).sup (T x) else ⊥) (Finset.mem_univ (⟨y / 32, by omega⟩ : Fin (nbp qi))))
    simp only
    rw [if_pos hb]
    exact Finset.le_sup (f := T x) (Finset.mem_Ico.mpr (by omega))

end

end Cert.Mx

end
-- ==== Proof.Softmax.lean ====
module

public import proofs.«01_k».proof.Proof.Column

@[expose] public section

noncomputable section

/-!
# One column: exponentials, sums, codes

The second and third sweeps, and the column as a whole: it leaves each key's probability.
-/

namespace Cert.Mx

open Idealize.ShloMosaic Idealize.SL.Sem

section

variable (k : ℝ) (n : ℕ) (T : Fin 128 → ℕ → EReal)

/-- The exponential of key `y`'s score for query `x`, against the largest of the first `n`. -/
def weight (x : Fin 128) (y : ℕ) : EReal := wt k ((Finset.range n).sup (T x)) (T x y)
/-- The reciprocal of the exponentials' sum. -/
def norm (x : Fin 128) : EReal := Ideal.div 1 (∑ y ∈ Finset.range n, weight k n T x y)

end

/-! ## Second sweep -/

section

variable {qi c : ℕ} {k : ℝ} {T : Fin 128 → ℕ → EReal}

/-- After `n` blocks: those blocks exponentiated, and the running sums by group and residue. -/
def Second (k : ℝ) (T : Fin 128 → ℕ → EReal) (qi c : ℕ) (hc : c < 2) (n : ℕ) (acc : Fin 4 → FVec Ideal (M2 8 128) .f32) (σ : Mem Ideal) : Prop :=
  (∀ (y : Fin 640) (x : Fin 128), y.val < nk qi → σ .s (ix3 (⟨c, hc⟩ : Fin 2) y x) = if y.val < 32 * n then weight k (nk qi) T x y.val else T x y.val) ∧
  ∀ (i : Fin 4) (j : Fin 8) (x : Fin 128), acc i (ix2 j x) = ∑ b ∈ Finset.range n, weight k (nk qi) T x (32 * b + (8 * i.val + j.val))

theorem sweep2_post (hq : qi < 5) (hc : c < 2) (mc : FVec Ideal (M2 1 128) .f32)
    (hm : ∀ x : Fin 128, mc (ix2 (0 : Fin 1) x) = (Finset.range (nk qi)).sup (T x) * (k : EReal)) {b : ℕ} (hb : b < nb qi)
    {acc : Fin 4 → FVec Ideal (M2 8 128) .f32} {σ : Mem Ideal} (h : Second k T qi c hc b acc σ) :
    Post (sweep2 (F := Ideal) (k : EReal) qi c hq hc mc b hb acc) σ (Second k T qi c hc (b + 1)) := by
  have hb' : b < 4 * (qi + 1) := hb
  have hnk : nk qi = 128 * (qi + 1) := rfl
  unfold sweep2
  refine post_bind (post_ld ?_)
  have hx : ∀ (inb) (i : Fin 32) (x : Fin 128), exp2 (F := Ideal) (subf (mulf (shapeCast (M2 32 128) ((fun j => σ .s ((Rect.unit (s := M3 2 640 128) ![c, 32 * b, 0] ![1, 32, 128] inb).toLoadRect.idx j)) : FVec Ideal (M3 1 32 128) .f32) (by decide))
      (broadcast (M2 32 128) (k : EReal))) (broadcastTo (M2 32 128) mc (by decide))) (ix2 i x) = weight k (nk qi) T x (32 * b + i.val) := fun inb i x => by
    show Ideal.exp2 (shapeCast (M2 32 128) _ _ (ix2 i x) * (k : EReal) - broadcastTo (M2 32 128) mc _ (ix2 i x)) = _
    rw [rows, hm]
    have e : shapeCast (M2 32 128) ((fun j => σ .s ((Rect.unit (s := M3 2 640 128) ![c, 32 * b, 0] ![1, 32, 128] inb).toLoadRect.idx j)) : FVec Ideal (M3 1 32 128) .f32) (by decide) (ix2 i x) = T x (32 * b + i.val) := by
      refine (ValueIdx.shapeCast_1ab_ab_apply _ _ _ _).trans ?_
      refine (congrArg (σ .s) (unit3 (i' := (⟨c, hc⟩ : Fin 2)) (j' := (⟨32 * b + i.val, by simp only [nb] at hb; omega⟩ : Fin 640)) (k' := x) (by simp) rfl (by simp))).trans ?_
      rw [h.1 _ _ (by simp only; omega), if_neg (by simp only; omega)]
    rw [e]
    rfl
  have hx := hx (inb3 (by omega) (by simp only [nb] at hb; omega) (by decide))
  generalize exp2 (F := Ideal) (subf (mulf (shapeCast (M2 32 128) ((fun j => σ .s ((Rect.unit (s := M3 2 640 128) ![c, 32 * b, 0] ![1, 32, 128] _).toLoadRect.idx j)) : FVec Ideal (M3 1 32 128) .f32) _)
      (broadcast (M2 32 128) (k : EReal))) (broadcastTo (M2 32 128) mc _)) = ex at hx ⊢
  refine post_bind (post_st (post_pure ⟨fun y x hy => ?_, fun i j x => ?_⟩))
  · rw [Function.update_self]
    by_cases hlt : 32 * b ≤ y.val ∧ y.val < 32 * b + 32
    · refine (put_in3 (i := (0 : Fin 1)) (j := (⟨y.val - 32 * b, by omega⟩ : Fin 32)) (k := x) (by simp) (by simp only; omega) (by simp)).trans ?_
      refine (ValueIdx.shapeCast_ab_1ab_apply _ _ _ _ _).trans ((hx _ _).trans ?_)
      rw [if_pos (by omega)]
      refine congrArg (weight k (nk qi) T x) ?_
      simp only
      omega
    · refine (put_off3 (by omega)).trans ((h.1 y x hy).trans ?_)
      by_cases h1 : y.val < 32 * b
      · rw [if_pos h1, if_pos (by omega)]
      · rw [if_neg h1, if_neg (by omega)]
  · rw [Finset.sum_range_succ, ← h.2 i j x]
    refine congrArg (acc i (ix2 j x) + ·) ?_
    refine (slice2 (i' := (⟨8 * i.val + j.val, by omega⟩ : Fin 32)) (j' := x) _ _ _ _ rfl (by simp)).trans (hx _ _)

theorem sum_block (f : ℕ → EReal) (n : ℕ) :
    ∑ j : Fin 8, ((∑ b ∈ Finset.range n, f (32 * b + (8 * 0 + j.val)) + ∑ b ∈ Finset.range n, f (32 * b + (8 * 1 + j.val)))
      + (∑ b ∈ Finset.range n, f (32 * b + (8 * 2 + j.val)) + ∑ b ∈ Finset.range n, f (32 * b + (8 * 3 + j.val)))) = ∑ y ∈ Finset.range (32 * n), f y := by
  induction n with
  | zero => simp
  | succ n ih =>
    have e : ∀ g j : ℕ, ∑ b ∈ Finset.range (n + 1), f (32 * b + (8 * g + j)) = ∑ b ∈ Finset.range n, f (32 * b + (8 * g + j)) + f (32 * n + (8 * g + j)) :=
      fun g j => Finset.sum_range_succ _ _
    have r : ∑ y ∈ Finset.range (32 * (n + 1)), f y = ∑ y ∈ Finset.range (32 * n), f y
        + ∑ j : Fin 8, ((f (32 * n + (8 * 0 + j.val)) + f (32 * n + (8 * 1 + j.val))) + (f (32 * n + (8 * 2 + j.val)) + f (32 * n + (8 * 3 + j.val)))) := by
      rw [show 32 * (n + 1) = 32 * n + (8 + 8 + (8 + 8)) by ring, Finset.sum_range_add]
      refine congrArg (_ + ·) ?_
      rw [Finset.sum_range_add, Finset.sum_range_add, Finset.sum_range_add]
      simp only [Finset.sum_add_distrib, Finset.sum_range, Nat.reduceMul, Nat.reduceAdd, zero_add, ← add_assoc (8 : ℕ) (8 : ℕ), ← add_assoc (16 : ℕ) (8 : ℕ)]
    rw [r, ← ih, ← Finset.sum_add_distrib]
    refine Finset.sum_congr rfl fun j _ => ?_
    simp only [e]
    ac_rfl

theorem recip_apply (acc : Fin 4 → FVec Ideal (M2 8 128) .f32) (h : ∀ (i : Fin 4) (j : Fin 8) (x : Fin 128),
    acc i (ix2 j x) = ∑ b ∈ Finset.range (nb qi), weight k (nk qi) T x (32 * b + (8 * i.val + j.val))) (x : Fin 128) :
    recip acc (ix2 (0 : Fin 1) x) = norm k (nk qi) T x := by
  have e : recip acc (ix2 (0 : Fin 1) x) = Ideal.div 1 (∑ j : Fin 8, ((acc 0 (ix2 j x) + acc 1 (ix2 j x)) + (acc 2 (ix2 j x) + acc 3 (ix2 j x)))) := by
    pointwise
  rw [e]
  unfold norm
  simp only [h]
  rw [show nk qi = 32 * nb qi by simp only [nb, nk]; omega]
  exact congrArg _ (sum_block _ _)

/-! ## Third sweep -/

/-- A word whose low half is zero, or-ed into that half. -/
theorem doubled (h : BitVec 16) : (h.setWidth 32 <<< 16) ||| (h.setWidth 32 <<< 16) >>> 16 = h ++ h := by
  apply BitVec.eq_of_getLsbD_eq
  intro i hi
  rw [append_bit h h i]
  simp only [BitVec.getLsbD_or, BitVec.getLsbD_shiftLeft, BitVec.getLsbD_ushiftRight, BitVec.getLsbD_setWidth]
  by_cases h1 : i < 16
  · simp [h1, hi]
    intro hh
    omega
  · simp [h1, hi]
    have : h.getLsbD i = false := BitVec.getLsbD_of_ge h i (by omega)
    simp [this]
    intro hh
    omega

theorem bits_apply {s : Shape} (v : IVec s 32) (j : s.Idx) : bitcastToFloat (F := Ideal) .f32 v j = Ideal.ofBits .f32 (v j) := rfl
theorem subi_apply {s : Shape} (v w : IVec s 32) (j : s.Idx) : subi v w j = IntOp.subi (v j) (w j) := rfl
theorem times_apply {s : Shape} (v w : FVec Ideal s .f32) (j : s.Idx) : mulf v w j = v j * w j := rfl
theorem gain_apply {s : Shape} (r : FVec Ideal s .f32) (eb : IVec s 32) (j : s.Idx) : gain s r eb j = r j * Ideal.ofBits .f32 (IntOp.subi 2122317824#32 (eb j)) := by
  unfold gain
  rw [times_apply, bits_apply, subi_apply]
  exact congrArg (fun z => r j * Ideal.ofBits .f32 (IntOp.subi z (eb j))) (rfl : broadcast s 2122317824#32 j = 2122317824#32)
theorem word_sub (a b : BitVec 32) : IntOp.subi a b = a - b := rfl
theorem word_add (a b : BitVec 32) : IntOp.addi a b = a + b := rfl
theorem word_or (a b : BitVec 32) : IntOp.ori a b = a ||| b := rfl
theorem shr_half (v : BitVec 32) : IntOp.shrui ArithUnit.vector v 16#32 = v >>> 16 := rfl

theorem gain_pat {b : BitVec 32} {m : ℕ} (hm : m ≤ 127) (he : b.toNat = 8388608 * (127 - m)) :
    Ideal.ofBits .f32 (2122317824#32 - b) = (((2 : ℝ) ^ ((126 + m : ℤ) - 127) : ℝ) : EReal) :=
  f32_pat _ (126 + m) (by omega) (by omega) (by rw [BitVec.toNat_sub, he, BitVec.toNat_ofNat]; omega) _ (by push_cast; ring)

theorem scale_pat {m : ℕ} (hm : m ≤ 127) :
    Ideal.ofBits .bf16 (BitVec.ofNat 16 (128 * (128 - m))) = (((2 : ℝ) ^ ((128 - m : ℤ) - 127) : ℝ) : EReal) := by
  rw [bf16_pow _ (128 - m) (by rw [BitVec.toNat_ofNat]; omega) (by omega) (by omega), show ((128 - m : ℕ) : ℤ) = 128 - m by omega]

theorem scale_word {b : BitVec 32} {m : ℕ} (hm : m ≤ 127) (he : b.toNat = 8388608 * (127 - m)) :
    b + 8388608#32 = (BitVec.ofNat 16 (128 * (128 - m))).setWidth 32 <<< 16 := BitVec.eq_of_toNat_eq (by
  rw [BitVec.toNat_add, he, BitVec.toNat_shiftLeft, BitVec.toNat_setWidth, BitVec.toNat_ofNat, BitVec.toNat_ofNat, Nat.shiftLeft_eq]
  omega)

/-- What a block is multiplied by and its scale word, when its exponent field was found to be `127 - m`. -/
theorem gain_scale {s : Shape} (r : FVec Ideal s .f32) (eb : IVec s 32) (j : s.Idx) {m : ℕ} (hm : m ≤ 127) (he : (eb j).toNat = 8388608 * (127 - m)) :
    gain s r eb j = r j * (((2 : ℝ) ^ ((126 + m : ℤ) - 127) : ℝ) : EReal) ∧
    ∃ h : BitVec 16, scaleWords s eb j = h ++ h ∧ Ideal.ofBits .bf16 h = (((2 : ℝ) ^ ((128 - m : ℤ) - 127) : ℝ) : EReal) := by
  have e2 : scaleWords s eb j = IntOp.ori (IntOp.addi (eb j) 8388608#32) (IntOp.shrui ArithUnit.vector (IntOp.addi (eb j) 8388608#32) 16#32) := rfl
  rw [gain_apply, e2, word_sub, word_add, word_or, shr_half, gain_pat hm he, scale_word hm he]
  exact ⟨rfl, _, doubled _, scale_pat hm⟩

/-- After `n` blocks: the exponentials and the blocks' scales in place, and the first blocks' probabilities. -/
def Third (k : ℝ) (T : Fin 128 → ℕ → EReal) (qi c : ℕ) (hc : c < 2) (n : ℕ) (σ : Mem Ideal) : Prop :=
  (∀ (y : Fin 640) (x : Fin 128), y.val < nk qi → σ .s (ix3 (⟨c, hc⟩ : Fin 2) y x) = weight k (nk qi) T x y.val) ∧
  (∀ (b : Fin 24) (x : Fin 128), b.val < nb qi → ∃ h : BitVec 16, σ .w (ix3 (⟨c, hc⟩ : Fin 2) b x) = h ++ h ∧ ∀ y ∈ blk b.val,
    min (Ideal.ofBits .f32 0x47600000#32) (max (Ideal.ofBits .f32 0xC7600000#32) (weight k (nk qi) T x y * σ .g (ix3 (⟨c, hc⟩ : Fin 2) b x))) * Ideal.ofBits .bf16 h
      = weight k (nk qi) T x y * norm k (nk qi) T x) ∧
  ∀ (y : Fin 640) (x : Fin 128), y.val < 32 * n → σ .p (ix3 (⟨c, hc⟩ : Fin 2) y x) = weight k (nk qi) T x y.val * norm k (nk qi) T x

theorem sweep3_post (hq : qi < 5) (hc : c < 2) {b : ℕ} (hb : b < nb qi) {σ : Mem Ideal} (h : Third k T qi c hc b σ) :
    Post (sweep3 (F := Ideal) qi c hq hc b hb (PUnit.unit : PUnit.{1})) σ fun _ σ' =>
      Third k T qi c hc (b + 1) σ' ∧ ∀ c' : Fin 2, c'.val ≠ c → ∀ (y : Fin 640) (x : Fin 128), σ' .p (ix3 c' y x) = σ .p (ix3 c' y x) := by
  have hb24 : b < 24 := by simp only [nb] at hb; omega
  have hb' : b < 4 * (qi + 1) := hb
  have hnk : nk qi = 128 * (qi + 1) := rfl
  unfold sweep3
  refine post_bind (post_ld (post_bind (post_ld (post_bind (post_ld (post_st ⟨⟨fun y x hy => ?_, fun b' x hb' => ?_, fun y x hy => ?_⟩, fun c' hc' y x => ?_⟩))))))
  · rw [Function.update_of_ne (by decide)]; exact h.1 y x hy
  · rw [Function.update_of_ne (by decide), Function.update_of_ne (by decide)]; exact h.2.1 b' x hb'
  · rw [Function.update_self]
    by_cases hlt : y.val < 32 * b
    · exact (put_off3 (by omega)).trans (h.2.2 y x hlt)
    · have hj : y.val - 32 * b < 32 := by omega
      refine (put_in3 (i := (0 : Fin 1)) (j := (⟨y.val - 32 * b, hj⟩ : Fin 32)) (k := x) (by simp) (by simp only; omega) (by simp)).trans ?_
      refine (ValueIdx.shapeCast_ab_1ab_apply _ _ _ _ _).trans ?_
      obtain ⟨w, hw, hp⟩ := h.2.1 ⟨b, hb24⟩ x hb
      rw [← hp y.val (Finset.mem_Ico.mpr (by simp only; omega)), ← h.1 y x (by omega)]
      refine congr (congrArg (fun u v : EReal => u * v) ?_) (scaleRow_apply _ w _ x ?_)
      · refine congrArg (min (Ideal.ofBits .f32 0x47600000#32)) (congrArg (max (Ideal.ofBits .f32 0xC7600000#32)) (congr (congrArg (fun u v : EReal => u * v) ?_) ?_))
        · refine (ValueIdx.shapeCast_1ab_ab_apply _ _ _ _).trans ?_
          exact congrArg (σ .s) (unit3 (by simp) (by simp only; omega) (by simp))
        · refine (rows _ _ _ _).trans ?_
          pointwise
      · refine Eq.trans ?_ hw
        pointwise

  · rw [Function.update_self]
    exact put_off3 (by omega)

end

/-! ## The column -/

section

variable {qi W c : ℕ} {k : ℝ}

theorem blk_nonempty (b : ℕ) : (blk b).Nonempty := ⟨32 * b, Finset.mem_Ico.mpr (by omega)⟩
theorem blk_subset {b : ℕ} (hb : b < nb qi) : blk b ⊆ Finset.range (nk qi) := fun y hy => by
  have hy := Finset.mem_Ico.mp hy
  have hb' : b < 4 * (qi + 1) := hb
  have hnk : nk qi = 128 * (qi + 1) := rfl
  exact Finset.mem_range.mpr (by omega)

/-- A column leaves the probabilities of its keys, and the other column's. -/
theorem column_post (hk : 0 < k) (hq : qi < 5) (hc : c < 2) (hW : 128 * c + 128 ≤ W) (S : ℕ → Fin 128 → EReal) (s : FVec Ideal (M2 (nk qi) W) .f32)
    (hs : ∀ (y : Fin (nk qi)) (x : Fin 128), s (ix2 y (⟨128 * c + x.val, by omega⟩ : Fin W)) = S y.val x) {σ : Mem Ideal} :
    Post (column (F := Ideal) (k : EReal) qi W c hq hc hW s) σ fun _ σ' =>
      (∀ (y : Fin 640) (x : Fin 128), y.val < nk qi →
        σ' .p (ix3 (⟨c, hc⟩ : Fin 2) y x) = weight k (nk qi) (causal qi S) x y.val * norm k (nk qi) (causal qi S) x) ∧
      ∀ c' : Fin 2, c'.val ≠ c → ∀ (y : Fin 640) (x : Fin 128), σ' .p (ix3 c' y x) = σ .p (ix3 c' y x) := by
  have hnb : nb qi = 4 * (qi + 1) := rfl
  have hnk : nk qi = 128 * (qi + 1) := rfl
  have hle := nb_le_nbp qi
  have hn := nbp_le hq
  refine post_bind (Post.mono (Post.keep (fun b => b = .p) (avoids_loop (fun b hb a => sweep1_avoids qi W c hq hc (by decide) (by decide) hW s b hb a) _)
    (post_loop (fun n _ σ => First (causal qi S) c hc n σ) ⟨fun y x h => absurd h (by omega), fun b i x hi hl h => absurd h (by omega)⟩
      fun b hb _ σ H => sweep1_post hq hc hW s (fun b hb => masked_apply hq hW hs hb) hb H)) fun _ σ1 H1 => ?_)
  refine post_bind (Post.mono (blockMax_post hq hc H1.1) fun bm σ1' H2 => ?_)
  obtain ⟨rfl, hbm⟩ := H2
  have hmc := colMax_apply hq (k : EReal) bm hbm
  have hrm := realMax_apply hq bm hbm
  simp only
  generalize realMax qi bm = rm at hmc hrm ⊢
  generalize colMax (F := Ideal) (k : EReal) qi rm = mc at hmc ⊢
  refine post_bind (Post.mono (Post.keep (fun b => b = .p) (avoids_loop (fun b hb a => sweep2_avoids (F := Ideal) (k : EReal) qi c hq hc (by decide) mc b hb a) _)
    (post_loop (fun n acc σ => Second k (causal qi S) qi c hc n acc σ) ⟨fun y x hy => ?_, fun i j x => ?_⟩
      fun b hb acc σ H => sweep2_post hq hc mc hmc hb H)) fun acc σ2 H2 => ?_)
  · rw [if_neg (by omega)]; exact H1.1.1 y x (by omega)
  · simp only [Finset.range_zero, Finset.sum_empty]
    exact Ideal.ofBits_zero_f32
  have hr := recip_apply acc H2.1.2
  generalize recip acc = r at hr ⊢
  have hgw : ∀ (b : Fin (nbp qi)) (x : Fin 128), b.val < nb qi →
      ∃ (m : ℕ) (x0 : ℝ), m ≤ 127 ∧ x0 * 2 ^ m ≤ 2 ∧ (expField (M2 (nbp qi) 128) (blockTop (F := Ideal) (k : EReal) qi rm mc r) (ix2 b x)).toNat = 8388608 * (127 - m) ∧
        ∀ y ∈ blk b.val, ∀ k' : ℕ, x0 * 2 ^ k' ≤ 2 →
        min (Ideal.ofBits .f32 0x47600000#32) (max (Ideal.ofBits .f32 0xC7600000#32)
          (weight k (nk qi) (causal qi S) x y * (norm k (nk qi) (causal qi S) x * (((2 : ℝ) ^ ((126 + k' : ℤ) - 127) : ℝ) : EReal)))) * (((2 : ℝ) ^ ((128 - k' : ℤ) - 127) : ℝ) : EReal)
            = weight k (nk qi) (causal qi S) x y * norm k (nk qi) (causal qi S) x := by
    intro b x hb
    obtain ⟨x0, h1, h2, h3, h4⟩ := block_quant hk (causal qi S x) (blk_nonempty b.val) (blk_subset hb) (m := (Finset.range (nk qi)).sup (causal qi S x))
      (r := norm k (nk qi) (causal qi S) x) rfl rfl rfl
    have ht : blockTop (F := Ideal) (k : EReal) qi rm mc r (ix2 b x) = (x0 : EReal) := by
      rw [← h1]
      have e : blockTop (F := Ideal) (k : EReal) qi rm mc r (ix2 b x)
          = Ideal.exp2 (rm (ix2 b x) * (k : EReal) - broadcastTo (M2 (nbp qi) 128) mc (bcast2 _ _) (ix2 b x)) * broadcastTo (M2 (nbp qi) 128) r (bcast2 _ _) (ix2 b x) * Ideal.ofBits .f32 0x37924925#32 := rfl
      rw [e, rows, rows, hmc, hr, hrm, if_pos hb, invCode_eq]
      rfl
    obtain ⟨m, hm, he, hx⟩ := expField_apply _ _ ht h2 h3
    exact ⟨m, x0, hm, hx, he, h4⟩
  generalize expField (M2 (nbp qi) 128) (blockTop (F := Ideal) (k : EReal) qi rm mc r) = eb at hgw ⊢
  refine post_bind (post_st (post_bind (post_st (Post.mono
    (post_loop (fun n _ σ' => Third k (causal qi S) qi c hc n σ' ∧ ∀ c' : Fin 2, c'.val ≠ c → ∀ (y : Fin 640) (x : Fin 128), σ' .p (ix3 c' y x) = σ2 .p (ix3 c' y x))
      ⟨⟨fun y x hy => ?_, fun b x hb => ?_, fun y x hy => absurd hy (by omega)⟩, fun c' hc' y x => ?_⟩
      fun b hb _ σ H => (sweep3_post hq hc hb H.1).mono fun _ _ h => ⟨h.1, fun c' hc' y x => (h.2 c' hc' y x).trans (H.2 c' hc' y x)⟩) fun _ σ3 H3 => ?_))))
  · rw [Function.update_of_ne (by decide), Function.update_of_ne (by decide), H2.1.1 y x hy, if_pos (by omega)]
  · obtain ⟨m, x0, hm, hx, he, h4⟩ := hgw ⟨b.val, by omega⟩ x hb
    obtain ⟨e1, h, e2, e3⟩ := gain_scale (broadcastTo (M2 (nbp qi) 128) r (bcast2 _ _)) eb (ix2 (⟨b.val, by omega⟩ : Fin (nbp qi)) x) hm he
    refine ⟨h, ?_, fun y hy => ?_⟩
    · rw [Function.update_self]
      refine (put_in3 (i := (0 : Fin 1)) (j := (⟨b.val, by omega⟩ : Fin (nbp qi))) (k := x) (by simp) (by simp) (by simp)).trans ?_
      exact (ValueIdx.shapeCast_ab_1ab_apply _ _ _ _ _).trans e2
    · rw [Function.update_of_ne (by decide), Function.update_self]
      have e5 := (put_in3 (X := σ2 .g) (w := shapeCast (M3 1 (nbp qi) 128) (gain (F := Ideal) (M2 (nbp qi) 128) (broadcastTo (M2 (nbp qi) 128) r (bcast2 _ _)) eb) (casts2 _ _))
        (inb := inb3 (a := c) (b := 0) (c := 0) (x := 2) (y := 24) (z := 128) (by omega) (by omega) (by decide)) (i' := (⟨c, hc⟩ : Fin 2)) (j' := b) (k' := x) (i := (0 : Fin 1)) (j := (⟨b.val, by omega⟩ : Fin (nbp qi))) (k := x) (by simp) (by simp) (by simp)).trans
        ((ValueIdx.shapeCast_ab_1ab_apply _ _ _ _ _).trans e1)
      rw [rows, hr] at e5
      rw [e3]
      refine Eq.trans ?_ (h4 y hy m hx)
      exact congrArg (fun z => min (Ideal.ofBits .f32 0x47600000#32) (max (Ideal.ofBits .f32 0xC7600000#32) (weight k (nk qi) (causal qi S) x y * z)) * (((2 : ℝ) ^ ((128 - m : ℤ) - 127) : ℝ) : EReal)) e5
  · rw [Function.update_of_ne (by decide), Function.update_of_ne (by decide)]
  · refine ⟨fun y x hy => H3.1.2.2 y x (by omega), fun c' hc' y x => ?_⟩
    rw [H3.2 c' hc' y x, H2.2 .p rfl, H1.2 .p rfl]

end

end Cert.Mx

end
-- ==== Proof.Output.lean ====
module

public import proofs.«01_k».proof.Proof.Softmax
public import Idealize.ShloMosaic.Lib.MatmulPlain
public import Idealize.ShloMosaic.Lib.Pipeline.Value

@[expose] public section

noncomputable section

/-!
# What the body writes

The attention output of a grid point as a function of its six input blocks, and that the body writes it.
-/

namespace Cert.Mx

open Idealize.ShloMosaic Idealize.SL.Sem

variable (I : Mem Ideal) (k : ℝ)

/-- The unscaled score of key `y` for a query. -/
def dotKey (h : Fin 7) (r : Fin 640) (y : ℕ) : EReal := if hy : y < 640 then ∑ d : Fin 128, kd I ⟨y, hy⟩ d * qd I h r d else 0
/-- That score, minus infinity for a later key. -/
def seen (h : Fin 7) (r : Fin 640) (y : ℕ) : EReal := if y ≤ r.val then dotKey I h r y else ⊥
/-- The number of keys of a query's tile. -/
def span (r : Fin 640) : ℕ := nk (r.val / 128)
theorem span_le (r : Fin 640) : span r ≤ 640 := by unfold span nk; omega

/-- The exponential of a key's score, and the reciprocal of their sum. -/
def rowWeight (h : Fin 7) (r : Fin 640) (y : ℕ) : EReal := wt k ((Finset.range (span r)).sup (seen I h r)) (seen I h r y)
def rowNorm (h : Fin 7) (r : Fin 640) : EReal := Ideal.div 1 (∑ y ∈ Finset.range (span r), rowWeight I k h r y)

/-- The output: values weighted by probabilities. -/
def attn (h : Fin 7) (r : Fin 640) (d : Fin 128) : EReal :=
  ∑ y : Fin (span r), vd I ⟨y.val, y.isLt.trans_le (span_le r)⟩ d * (rowWeight I k h r y.val * rowNorm I k h r)

/-! ## Reads -/

/-- A product of matrices into zeros. -/
theorem product {M K N : ℕ} (a : FVec Ideal (M2 M K) .bf16) (b : FVec Ideal (M2 K N) .bf16) (i : Fin M) (j : Fin N) :
    matmul (DotDims.plain M K N) none a b (constant (M2 M N) .f32 0x00000000#32) (ix2 i j) = ∑ t : Fin K, a (ix2 i t) * b (ix2 t j) := by
  refine (Ideal.matmul_plain_apply _ _ _ _ _ _).trans ?_
  refine (congrArg (· + _) (Ideal.ofBits_zero_f32)).trans (zero_add _)

theorem beside_left {α : Type} {n : ℕ} (a b : (M2 n 128).Idx → α) (i : Fin n) (x : Fin 128) (h) :
    concatenate (M2 n 256) 1 [⟨M2 n 128, a⟩, ⟨M2 n 128, b⟩] (cat2 n) (ix2 i (⟨128 * 0 + x.val, h⟩ : Fin 256)) = a (ix2 i x) := by
  refine concatenate_pair_apply_left (t := M2 n 256) (s₁ := M2 n 128) (s₂ := M2 n 128) 1 a b (cat2 n) _ rfl (ix2 i x) fun t => ?_
  fin_cases t
  · rfl
  · show x.val = 128 * 0 + x.val; omega

theorem beside_right {α : Type} {n : ℕ} (a b : (M2 n 128).Idx → α) (i : Fin n) (x : Fin 128) (h) :
    concatenate (M2 n 256) 1 [⟨M2 n 128, a⟩, ⟨M2 n 128, b⟩] (cat2 n) (ix2 i (⟨128 * 1 + x.val, h⟩ : Fin 256)) = b (ix2 i x) := by
  refine concatenate_pair_apply_right (t := M2 n 256) (s₁ := M2 n 128) (s₂ := M2 n 128) 1 a b (cat2 n) _ rfl rfl (ix2 i x) (fun t ht => ?_) ?_
  · fin_cases t
    · rfl
    · exact absurd rfl ht
  · show x.val + 128 = 128 * 1 + x.val; omega

theorem transpose_apply {α : Type} {a b : ℕ} (v : (M2 a b).Idx → α) (h) (i : Fin b) (j : Fin a) :
    transpose (M2 b a) [1, 0] v h (ix2 i j) = v (ix2 j i) := congrArg v (funext fun t => by fin_cases t <;> rfl)

/-! ## A tile -/

/-- The buffers a column leaves alone. -/
def Slot.kept : Slot → Prop
  | .s | .p | .slab | .g | .w => False
  | _ => True

variable {I k}

theorem Ready.of_keep {σ σ' : Mem Ideal} (h : Ready I σ) (e : ∀ b : Slot, b.kept → b ≠ .o → σ' b = σ b) : Ready I σ' := by
  refine ⟨fun a ha => ?_, fun h' c r hl => ?_, fun y d => ?_, fun y d => ?_⟩
  · rw [e a (by cases a <;> first | trivial | exact ha) (by rintro rfl; exact ha)]; exact h.1 a ha
  · rw [e .qsw trivial (by decide)]; exact h.2.1 h' c r hl
  · rw [e .kbf trivial (by decide)]; exact h.2.2.1 y d
  · rw [e .vt trivial (by decide)]; exact h.2.2.2 y d

/-- The probabilities one column is to leave. -/
def Column (I : Mem Ideal) (k : ℝ) (qi : ℕ) (hq : qi < 5) (h : Fin 7) (c : Fin 2) (σ : Mem Ideal) : Prop :=
  ∀ (y : Fin 640) (x : Fin 128), y.val < nk qi → σ .p (ix3 c y x) = rowWeight I k h (⟨128 * qi + x.val, by omega⟩ : Fin 640) y.val * rowNorm I k h (⟨128 * qi + x.val, by omega⟩ : Fin 640)

theorem span_tile {qi : ℕ} (hq : qi < 5) (x : Fin 128) : span (⟨128 * qi + x.val, by omega⟩ : Fin 640) = nk qi := by
  unfold span
  exact congrArg nk (by simp only; omega)

theorem weight_row {qi : ℕ} (hq : qi < 5) (h : Fin 7) (x : Fin 128) (y : ℕ) :
    weight k (nk qi) (causal qi fun y x => dotKey I h (⟨128 * qi + x.val, by omega⟩ : Fin 640) y) x y = rowWeight I k h (⟨128 * qi + x.val, by omega⟩ : Fin 640) y := by
  unfold rowWeight
  rw [span_tile hq x]
  rfl
theorem norm_row {qi : ℕ} (hq : qi < 5) (h : Fin 7) (x : Fin 128) :
    norm k (nk qi) (causal qi fun y x => dotKey I h (⟨128 * qi + x.val, by omega⟩ : Fin 640) y) x = rowNorm I k h (⟨128 * qi + x.val, by omega⟩ : Fin 640) := by
  unfold rowNorm norm
  rw [span_tile hq x]
  exact congrArg _ (Finset.sum_congr rfl fun y _ => weight_row hq h x y)

theorem column_tile {qi W c : ℕ} (hk : 0 < k) (hq : qi < 5) (hc : c < 2) (hW : 128 * c + 128 ≤ W) (h : Fin 7) (s : FVec Ideal (M2 (nk qi) W) .f32)
    (hs : ∀ (y : Fin (nk qi)) (x : Fin 128), s (ix2 y (⟨128 * c + x.val, by omega⟩ : Fin W)) = dotKey I h (⟨128 * qi + x.val, by omega⟩ : Fin 640) y.val)
    {σ : Mem Ideal} (hR : Ready I σ) :
    Post (column (F := Ideal) (k : EReal) qi W c hq hc hW s) σ fun _ σ' => Ready I σ' ∧ σ' .o = σ .o ∧ Column I k qi hq h ⟨c, hc⟩ σ' ∧
      ∀ c' : Fin 2, c'.val ≠ c → ∀ (y : Fin 640) (x : Fin 128), σ' .p (ix3 c' y x) = σ .p (ix3 c' y x) := by
  refine Post.mono (Post.keep Slot.kept (column_avoids (F := Ideal) (k : EReal) qi W c hq hc not_false not_false not_false not_false not_false hW s)
    (column_post hk hq hc hW (fun y x => dotKey I h (⟨128 * qi + x.val, by omega⟩ : Fin 640) y) s hs)) fun _ σ' H => ⟨hR.of_keep fun b hb _ => H.2 b hb, H.2 .o trivial, fun y x hy => ?_, H.1.2⟩
  rw [H.1.1 y x hy, weight_row hq h x, norm_row hq h x]

/-- A query tile's scores. -/
theorem scores_apply {qi W : ℕ} (hq : qi < 5) (h : Fin 7) {σ : Mem Ideal} (hR : Ready I σ) (inb) (q : FVec Ideal (M2 128 W) .bf16) (x : Fin 128) (x' : Fin W)
    (hqx : ∀ d : Fin 128, q (ix2 d x') = qd I h (⟨128 * qi + x.val, by omega⟩ : Fin 640) d) (y : Fin (nk qi)) :
    matmul (φ₁ := .bf16) (DotDims.plain (nk qi) 128 W) none ((fun j => σ .kbf ((Rect.unit (s := M2 640 128) ![0, 0] ![nk qi, 128] inb).toLoadRect.idx j)) : FVec Ideal (M2 (nk qi) 128) .bf16)
      q (constant (M2 (nk qi) W) .f32 0x00000000#32) (ix2 y x') = dotKey I h (⟨128 * qi + x.val, by omega⟩ : Fin 640) y.val := by
  have hy : y.val < 640 := y.isLt.trans_le (by simp only [nk]; omega)
  rw [product]
  unfold dotKey
  rw [dif_pos hy]
  refine Finset.sum_congr rfl fun d _ => congr (congrArg (fun u v : EReal => u * v) ?_) (hqx d)
  exact (congrArg (σ .kbf) (unit2 (i' := (⟨y.val, hy⟩ : Fin 640)) (j' := d) (by simp) (by simp))).trans (hR.2.2.1 _ _)

/-- A tile's values weighted by what its column left. -/
theorem weighted_apply {qi W : ℕ} (hq : qi < 5) (h : Fin 7) (c : Fin 2) {σ : Mem Ideal} (hR : Ready I σ) (hP : Column I k qi hq h c σ) (inb) (p : FVec Ideal (M2 (nk qi) W) .bf16)
    (x : Fin 128) (x' : Fin W) (hp : ∀ y : Fin (nk qi), p (ix2 y x') = σ .p (ix3 c (⟨y.val, y.isLt.trans_le (by simp only [nk]; omega)⟩ : Fin 640) x)) (d : Fin 128) :
    matmul (φ₁ := .bf16) (DotDims.plain 128 (nk qi) W) none ((fun j => σ .vt ((Rect.unit (s := M2 128 640) ![0, 0] ![128, nk qi] inb).toLoadRect.idx j)) : FVec Ideal (M2 128 (nk qi)) .bf16)
      p (constant (M2 128 W) .f32 0x00000000#32) (ix2 d x') = attn I k h (⟨128 * qi + x.val, by omega⟩ : Fin 640) d := by
  rw [product]
  unfold attn
  have e := span_tile hq x
  refine (Fintype.sum_equiv (finCongr e.symm) _ _ fun y => ?_)
  have hy : y.val < 640 := y.isLt.trans_le (by simp only [nk]; omega)
  refine congr (congrArg (fun u v : EReal => u * v) ?_) ((hp y).trans (hP ⟨y.val, hy⟩ x y.isLt))
  exact (congrArg (σ .vt) (unit2 (i' := d) (j' := (⟨y.val, hy⟩ : Fin 640)) (by simp) (by simp))).trans (hR.2.2.2 _ _)

/-- The outputs of the first `n` units are in place. -/
def Done (I : Mem Ideal) (k : ℝ) (n : ℕ) (σ : Mem Ideal) : Prop := ∀ (r : Fin 640) (h : Fin 7) (d : Fin 128), 4 * (r.val / 128) + h.val / 2 < n →
  σ .o (ix3 (0 : Fin 1) r (⟨128 * h.val + d.val, by omega⟩ : Fin 896)) = attn I k h r d

/-- One store of a tile's output. -/
theorem put_tile {qi : ℕ} (hq : qi < 5) (h : Fin 7) (inb) (w : FVec Ideal (M2 128 128) .bf16) (X : (M3 1 640 896).Idx → EReal)
    (hw : ∀ x d : Fin 128, w (ix2 x d) = attn I k h (⟨128 * qi + x.val, by omega⟩ : Fin 640) d) (r : Fin 640) (h' : Fin 7) (d : Fin 128) (hc) :
    put (Rect.unit (s := M3 1 640 896) ![0, 128 * qi, 128 * h.val] ![1, 128, 128] inb).emb (shapeCast (M3 1 128 128) w hc) X
        (ix3 (0 : Fin 1) r (⟨128 * h'.val + d.val, by omega⟩ : Fin 896))
      = if r.val / 128 = qi ∧ h' = h then attn I k h' r d else X (ix3 (0 : Fin 1) r (⟨128 * h'.val + d.val, by omega⟩ : Fin 896)) := by
  by_cases e : r.val / 128 = qi ∧ h' = h
  · rw [if_pos e]
    obtain ⟨e1, rfl⟩ := e
    refine (put_in3 (i := (0 : Fin 1)) (j := (⟨r.val - 128 * qi, by omega⟩ : Fin 128)) (k := d) (by simp) (by simp only; omega) (by simp)).trans ?_
    refine (ValueIdx.shapeCast_ab_1ab_apply _ _ _ _ _).trans ((hw _ _).trans ?_)
    exact congrArg (fun z => attn I k h' z d) (Fin.ext (by simp only; omega))
  · rw [if_neg e]
    refine put_off3 fun H => e ?_
    simp only at H
    exact ⟨by omega, Fin.ext (by omega)⟩

theorem soloTile_post (hk : 0 < k) {qi : ℕ} (hq : qi < 5) {σ : Mem Ideal} (hR : Ready I σ) (hD : Done I k (4 * qi + 3) σ) :
    Post (soloTile (F := Ideal) (k : EReal) qi hq 6 (by decide)) σ fun _ σ' => Ready I σ' ∧ Done I k (4 * qi + 3 + 1) σ' := by
  refine post_bind (Post.mono (queryTile_post hq (by decide) hR) fun qa σ0 h0 => ?_)
  obtain ⟨rfl, hqa⟩ := h0
  refine post_bind (post_ld ?_)
  refine post_bind (Post.mono (column_tile hk hq (by decide) (by decide) (6 : Fin 7) _ (fun y x => scores_apply hq 6 hR _ qa x _ (fun d => ?_) y) hR) fun _ σ1 h1 => ?_)
  · exact (congrArg (fun z => qa (ix2 d z)) (Fin.ext (by simp))).trans (hqa d x)
  obtain ⟨hR1, ho, hP, -⟩ := h1
  refine post_bind (post_ld (post_bind (post_ld (post_st ⟨hR1.of_keep fun b _ hb => Function.update_of_ne hb _ _, fun r h d hl => ?_⟩))))
  rw [Function.update_self]
  refine (put_tile (I := I) (k := k) hq (6 : Fin 7) _ _ _ (fun x d => ?_) r h d _).trans ?_
  · refine Eq.trans ?_ (weighted_apply hq 6 0 hR1 hP (inb2 (by decide) (by simp only [nk]; omega)) (shapeCast (M2 (nk qi) 128) ((fun j => σ1 .p ((Rect.unit (s := M3 2 640 128) ![0, 0, 0] ![1, nk qi, 128]
        (inb3 (by decide) (by simp only [nk]; omega) (by decide))).toLoadRect.idx j)) : FVec Ideal (M3 1 (nk qi) 128) .bf16) (casts3 _ _)) x x (fun y => ?_) d)
    · exact transpose_apply _ _ _ _
    · refine (ValueIdx.shapeCast_1ab_ab_apply _ _ _ _).trans ?_
      exact congrArg (σ1 .p) (unit3 (by simp) (by simp) (by simp))
  · rw [ho]
    by_cases e : r.val / 128 = qi ∧ h = 6
    · rw [if_pos e]
    · rw [if_neg e]
      refine hD r h d ?_
      have : ¬(r.val / 128 = qi ∧ h.val = 6) := fun H => e ⟨H.1, Fin.ext H.2⟩
      omega

theorem Column.after {qi : ℕ} {hq : qi < 5} {h : Fin 7} {c : Fin 2} {σ σ' : Mem Ideal} (H : Column I k qi hq h c σ)
    (e : ∀ (y : Fin 640) (x : Fin 128), σ' .p (ix3 c y x) = σ .p (ix3 c y x)) : Column I k qi hq h c σ' := fun y x hy => (e y x).trans (H y x hy)

theorem pairTile_post (hk : 0 < k) {qi h : ℕ} (hq : qi < 5) (hh : h + 1 < 7) (heven : h % 2 = 0) {σ : Mem Ideal} (hR : Ready I σ) (hD : Done I k (4 * qi + h / 2) σ) :
    Post (pairTile (F := Ideal) (k : EReal) qi hq h hh) σ fun _ σ' => Ready I σ' ∧ Done I k (4 * qi + h / 2 + 1) σ' := by
  have hh' : h < 7 := by omega
  refine post_bind (Post.mono (queryTile_post hq hh' hR) fun qa σ0 h0 => ?_)
  obtain ⟨rfl, hqa⟩ := h0
  refine post_bind (Post.mono (queryTile_post hq hh hR) fun qb σ1 h0 => ?_)
  obtain ⟨rfl, hqb⟩ := h0
  refine post_bind (post_ld ?_)
  refine post_bind (Post.mono (column_tile hk hq (by decide) (by decide) (⟨h, hh'⟩ : Fin 7) _ (fun y x => scores_apply hq ⟨h, hh'⟩ hR _ _ x _ (fun d => ?_) y) hR) fun _ σ2 h1 => ?_)
  · exact (beside_left qa qb d x _).trans (hqa d x)
  obtain ⟨hR2, ho2, hP2, -⟩ := h1
  refine post_bind (Post.mono (column_tile hk hq (by decide) (by decide) (⟨h + 1, hh⟩ : Fin 7) _ (fun y x => scores_apply hq ⟨h + 1, hh⟩ hR _ _ x _ (fun d => ?_) y) hR2) fun _ σ3 h1 => ?_)
  · exact (beside_right qa qb d x _).trans (hqb d x)
  obtain ⟨hR3, ho3, hP3, hkeep⟩ := h1
  have hP0 := hP2.after (fun y x => hkeep 0 (by decide) y x)
  refine post_bind (post_ld (post_bind (post_ld (post_bind (post_ld (post_bind (post_st (post_st
    ⟨hR3.of_keep fun b _ hb => (Function.update_of_ne hb _ _).trans (Function.update_of_ne hb _ _), fun r h' d hl => ?_⟩))))))))
  rw [Function.update_self]
  refine (put_tile (I := I) (k := k) hq (⟨h + 1, hh⟩ : Fin 7) _ _ _ (fun x d => ?_) r h' d _).trans ?_
  · refine (transpose_apply _ _ _ _).trans ((slice2 (i' := d) (j' := (⟨128 * 1 + x.val, by omega⟩ : Fin 256)) _ _ _ _ (by simp) (by simp)).trans ?_)
    refine weighted_apply hq (⟨h + 1, hh⟩ : Fin 7) 1 hR3 hP3 _ _ x (⟨128 * 1 + x.val, by omega⟩ : Fin 256) (fun y => ?_) d
    refine (beside_right _ _ y x _).trans ((ValueIdx.shapeCast_1ab_ab_apply _ _ _ _).trans ?_)
    exact congrArg (σ3 .p) (unit3 (by simp) (by simp) (by simp))
  rw [Function.update_self]
  by_cases e1 : r.val / 128 = qi ∧ h' = ⟨h + 1, hh⟩
  · rw [if_pos e1]
  rw [if_neg e1]
  refine (put_tile (I := I) (k := k) hq (⟨h, hh'⟩ : Fin 7) _ _ _ (fun x d => ?_) r h' d _).trans ?_
  · refine (transpose_apply _ _ _ _).trans ((slice2 (i' := d) (j' := (⟨128 * 0 + x.val, by omega⟩ : Fin 256)) _ _ _ _ (by simp) (by simp)).trans ?_)
    refine weighted_apply hq (⟨h, hh'⟩ : Fin 7) 0 hR3 hP0 _ _ x (⟨128 * 0 + x.val, by omega⟩ : Fin 256) (fun y => ?_) d
    refine (beside_left _ _ y x _).trans ((ValueIdx.shapeCast_1ab_ab_apply _ _ _ _).trans ?_)
    exact congrArg (σ3 .p) (unit3 (by simp) (by simp) (by simp))
  rw [ho3, ho2]
  by_cases e2 : r.val / 128 = qi ∧ h' = ⟨h, hh'⟩
  · rw [if_pos e2]
  rw [if_neg e2]
  refine hD r h' d ?_
  have n1 : ¬(r.val / 128 = qi ∧ h'.val = h + 1) := fun H => e1 ⟨H.1, Fin.ext H.2⟩
  have n2 : ¬(r.val / 128 = qi ∧ h'.val = h) := fun H => e2 ⟨H.1, Fin.ext H.2⟩
  omega

theorem unitTile_post (hk : 0 < k) {u : ℕ} (hu : u < 20) {σ : Mem Ideal} (hR : Ready I σ) (hD : Done I k u σ) :
    Post (unitTile (F := Ideal) (k : EReal) u hu) σ fun _ σ' => Ready I σ' ∧ Done I k (u + 1) σ' := by
  unfold unitTile
  by_cases h : u % 4 < 3
  · rw [dif_pos h]
    have e : 4 * (u / 4) + 2 * (u % 4) / 2 = u := by omega
    have := pairTile_post hk (qi := u / 4) (h := 2 * (u % 4)) (by omega) (by omega) (by omega) hR (e.symm ▸ hD)
    rw [e] at this
    exact this
  · rw [dif_neg h]
    have e : 4 * (u / 4) + 3 = u := by omega
    have := soloTile_post hk (qi := u / 4) (by omega) hR (e.symm ▸ hD)
    rw [e] at this
    exact this

theorem units_post (hk : 0 < k) {σ : Mem Ideal} (h : Ready I σ) :
    Post (loop 20 (fun u hu (_ : PUnit.{1}) => unitTile (F := Ideal) (k : EReal) u hu) ⟨⟩) σ fun _ σ' => Ready I σ' ∧ Done I k 20 σ' :=
  post_loop (fun n _ σ => Ready I σ ∧ Done I k n σ) ⟨h, fun r h d hl => absurd hl (by omega)⟩ fun u hu _ σ H => unitTile_post hk hu H.1 H.2

attribute [local irreducible] loop unitTile prelude in
theorem all_post (hk : 0 < k) {σ : Mem Ideal} (hI : Same I σ) :
    Post (body (F := Ideal) (k : EReal)) σ fun _ σ' => Ready I σ' ∧ Done I k 20 σ' := by
  unfold body
  exact post_bind (p := prelude (F := Ideal)) (k := fun _ => loop 20 (fun u hu (_ : PUnit.{1}) => unitTile (F := Ideal) (k : EReal) u hu) ⟨⟩)
    (Post.mono (prelude_post hI) fun _ σ1 h1 => units_post hk h1)

theorem Post.out {α : Type} {p : Prog (Op Ideal) α} {σ : Mem Ideal} {Q : Mem Ideal → Prop} (h : Post p σ fun _ σ' => Q σ') : Q (ev p σ).2 := h

/-- The body writes the attention output. -/
theorem body_post (hk : 0 < k) {σ : Mem Ideal} (hI : Same I σ) : Done I k 20 (ev (body (F := Ideal) (k : EReal)) σ).2 :=
  (Post.out (Q := fun σ' => Ready I σ' ∧ Done I k 20 σ') (all_post hk hI)).2

end Cert.Mx

end
-- ==== Proof.Spec.lean ====
module

public import proofs.«01_k».proof.Proof.Output

@[expose] public section

noncomputable section

/-!
# The attention output of whole arrays

The input blocks of one grid point cut from the six argument arrays, and the result array they give.
-/

namespace Cert.Mx

open Idealize.ShloMosaic

/-- The shapes of the argument arrays and of the result. -/
abbrev ShQ : Shape := ⟨4, ![3, 640, 14, 128]⟩
abbrev ShQs : Shape := ⟨4, ![3, 640, 14, 4]⟩
abbrev ShK : Shape := ⟨4, ![3, 640, 2, 128]⟩
abbrev ShKs : Shape := ⟨4, ![3, 640, 2, 4]⟩
abbrev ShVs : Shape := ⟨4, ![3, 20, 2, 128]⟩
abbrev ShO : Shape := ⟨3, ![3, 640, 1792]⟩

/-- The six argument arrays: codes and scale bytes of queries, keys and values. -/
structure Args where
  q : FVec Ideal ShQ .fp8e4m3
  qs : IVec ShQs 8
  k : FVec Ideal ShK .fp8e4m3
  ks : IVec ShKs 8
  v : FVec Ideal ShK .fp8e4m3
  vs : IVec ShVs 8

/-- Query head `h` of key head `g`. -/
def head (g : Fin 2) (h : Fin 7) : Fin 14 := ⟨g.val * 7 + h.val, by omega⟩
/-- A column of the result: its key head, its query head within that, and its dimension. -/
def keyHead (x : Fin 1792) : Fin 2 := ⟨x.val / 896, by omega⟩
def within (x : Fin 1792) : Fin 7 := ⟨x.val / 128 % 7, by omega⟩
def dimOf (x : Fin 1792) : Fin 128 := ⟨x.val % 128, by omega⟩

/-- The columns of one key head. -/
def headOf (x : Fin 896) : Fin 7 := ⟨x.val / 128, by omega⟩
def colOf (x : Fin 896) : Fin 128 := ⟨x.val % 128, by omega⟩
def outCol (g : Fin 2) (x : Fin 896) : Fin 1792 := ⟨g.val * 896 + x.val, by omega⟩

theorem keyHead_outCol (g : Fin 2) (x : Fin 896) : keyHead (outCol g x) = g := by
  unfold keyHead outCol; ext; show (g.val * 896 + x.val) / 896 = g.val; omega
theorem within_outCol (g : Fin 2) (x : Fin 896) : within (outCol g x) = headOf x := by
  unfold within outCol headOf; ext; show (g.val * 896 + x.val) / 128 % 7 = x.val / 128; omega
theorem dimOf_outCol (g : Fin 2) (x : Fin 896) : dimOf (outCol g x) = colOf x := by
  unfold dimOf outCol colOf; ext; show (g.val * 896 + x.val) % 128 = x.val % 128; omega
theorem col_split (x : Fin 896) : 128 * (headOf x).val + (colOf x).val = x.val := by
  unfold headOf colOf; show 128 * (x.val / 128) + x.val % 128 = x.val; omega
theorem headOf_bound (r : Fin 640) (h : Fin 7) : 4 * (r.val / 128) + h.val / 2 < 20 := by omega

variable (A : Args)

/-- The input blocks of batch element `b` and key head `g`; the other buffers hold anything. -/
def Args.block (b : Fin 3) (g : Fin 2) : Mem Ideal
  | .q => fun i : (⟨4, ![1, 7, 640, 128]⟩ : Shape).Idx => A.q (ix4 b (i 2 : Fin 640) (head g (i 1)) (i 3 : Fin 128))
  | .qs => fun i : (⟨4, ![1, 7, 4, 640]⟩ : Shape).Idx => A.qs (ix4 b (i 3 : Fin 640) (head g (i 1)) (i 2 : Fin 4))
  | .k => fun i : (⟨4, ![1, 1, 640, 128]⟩ : Shape).Idx => A.k (ix4 b (i 2 : Fin 640) g (i 3 : Fin 128))
  | .ks => fun i : (⟨4, ![1, 1, 4, 640]⟩ : Shape).Idx => A.ks (ix4 b (i 3 : Fin 640) g (i 2 : Fin 4))
  | .v => fun i : (⟨4, ![1, 1, 640, 128]⟩ : Shape).Idx => A.v (ix4 b (i 2 : Fin 640) g (i 3 : Fin 128))
  | .vs => fun i : (⟨4, ![1, 1, 20, 128]⟩ : Shape).Idx => A.vs (ix4 b (i 2 : Fin 20) g (i 3 : Fin 128))
  | .o => fun _ => (0 : EReal)
  | .kbf => fun _ => (0 : EReal)
  | .vt => fun _ => (0 : EReal)
  | .qsw => fun _ => (0 : BitVec 32)
  | .ksw => fun _ => (0 : BitVec 32)
  | .vsw => fun _ => (0 : BitVec 32)
  | .s => fun _ => (0 : EReal)
  | .p => fun _ => (0 : EReal)
  | .slab => fun _ => (0 : EReal)
  | .g => fun _ => (0 : EReal)
  | .w => fun _ => (0 : BitVec 32)

/-- The result: 1792 columns are 2 key heads times 7 query heads times 128. -/
def Args.out (k : ℝ) : FVec Ideal ShO .bf16 := fun i =>
  attn (A.block (i 0) (keyHead (i 2))) k (within (i 2)) (i 1) (dimOf (i 2))

end Cert.Mx

end
-- ==== Proof.RefLines.lean ====
module

public import proofs.«01_k».proof.Proof.Spec
public import proofs.«01_k».proof.Proof.Gen.ReferenceIdeal.Launch
public import Idealize.ShloMosaic.Lib.StableHlo.ReadAt
public import Idealize.ShloMosaic.Lib.Pointwise

@[expose] public section

noncomputable section

/-!
# The reference's lines, read at an index

Each stretch of host operations of the reference, from any contents `V` of the buffers before it: what the buffers
that later stretches read hold, element by element.
-/

namespace Cert.ReferenceIdeal.Hand

open Idealize.ShloMosaic Idealize.ShloMosaic.TcCoe Idealize.ShloMosaic.Tactic
open Cert.ReferenceIdeal.Gen Cert.Mx

/-- An entry of an array as an extended real number. -/
abbrev num (x : EReal) : EReal := x
/-- The power of two a scale byte stands for. -/
def refScale (s : BitVec 8) : EReal :=
  Ideal.pow (Ideal.ofBits .f32 0x40000000#32) (FloatOps.sitofp (F := Ideal) .f32 (BitVec.setWidth 32 s) - Ideal.ofBits .f32 0x42FE0000#32)
/-- The largest score of a row. -/
def refMax (S : Fin 640 → EReal) : EReal := Finset.univ.fold max (Ideal.ofBits .f32 0xFF800000#32) S
/-- A row's softmax. -/
def refProb (S : Fin 640 → EReal) (y : Fin 640) : EReal :=
  Ideal.exp (S y - refMax S) * Ideal.div 1 (∑ x, Ideal.exp (S x - refMax S))
/-- Key `k` of block `j`. -/
def keyOf (j : Fin 20) (k : Fin 32) : Fin 640 := ⟨j.val * 32 + k.val, by omega⟩
/-- The block of a key, and its place in the block. -/
def blockOf (y : Fin 640) : Fin 20 := ⟨y.val / 32, by omega⟩
def placeOf (y : Fin 640) : Fin 32 := ⟨y.val % 32, by omega⟩
def quarter (d : Fin 128) : Fin 4 := ⟨d.val / 32, by omega⟩
/-- The exponent of a block with largest probability `a`. -/
def refExponent (a : EReal) : EReal :=
  FloatOps.floor (F := Ideal) (φ := .f32) (Ideal.div (Ideal.log (a * Ideal.ofBits .f32 0x37924925#32)) (Ideal.log (Ideal.ofBits .f32 0x40000000#32))) + 1

variable (V : Valuation τ sig (Elt Ideal)) (b : Fin 3) (g : Fin 2)

/-- A row of the block maximum's operand. -/
theorem blockMax_at (x : FVec Ideal S3x2x7x640x20x32 .f32) (h : Fin 7) (r : Fin 640) (j : Fin 20) :
    Host.reduce FloatOps.maximumf x (constant S_ .f32 0xFF800000#32) reducesTo_S3x2x7x640x20x32_S3x2x7x640x20_d5 h_S_ (ix5 b g h r j)
      = Finset.univ.fold max ⊥ fun k : Fin 32 => x (ix6 b g h r j k) := by
  pointwise
  rw [minusInf]
  refine Finset.fold_filter_eq_fold_of_fiber max _ (fun k : Fin 32 => ix6 b g h r j k) (fun _ _ e => congrFun e 5) (fun i => ⟨fun e => ⟨i 5, ?_⟩, ?_⟩) _ _
  · funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

theorem score_line (h : Fin 7) (r : Fin 640) (y : Fin 640) :
    StableHlo.after (hostOps1 (F := Ideal)) V (Proc.devRef .tc main_v43) (ix5 b g h r y)
      = Ideal.div (∑ d : Fin 128, num (V (Proc.devRef .tc main_v0_0) (ix4 b r (head g h) d)) * refScale (V (Proc.devRef .tc main_arg1) (ix4 b r (head g h) (quarter d)))
          * (num (V (Proc.devRef .tc main_v0_1) (ix4 b y g d)) * refScale (V (Proc.devRef .tc main_arg3) (ix4 b y g (quarter d))))) (Ideal.sqrt (Ideal.ofBits .f32 0x43000000#32)) := by
  after_reads_at
  simp only [Nat.div_add_mod']
  rfl

theorem value_line (y : Fin 640) (d : Fin 128) :
    StableHlo.after (hostOps1 (F := Ideal)) V (Proc.devRef .tc main_v39) (ix4 b g y d)
      = num (V (Proc.devRef .tc main_v0_2) (ix4 b y g d)) * refScale (V (Proc.devRef .tc main_arg5) (ix4 b (blockOf y) g d)) := by
  after_reads_at
  simp only [Nat.div_add_mod']
  rfl

theorem causal_line (r : Fin 640) (y : Fin 640) :
    StableHlo.after (hostOps1 (F := Ideal)) V (Proc.devRef .tc main_v49) (ix2 r y)
      = IntOp.cmpi CmpIPredicate.sle (BitVec.ofNat 32 y.val) (BitVec.ofNat 32 r.val) := by
  after_reads_at

theorem minus_inf_line  :
    StableHlo.after (hostOps1 (F := Ideal)) V (Proc.devRef .tc main_cst_6) (ix0)
      = Ideal.ofBits .f32 0xFF800000#32 := by
  after_reads_at

theorem masked_line (h : Fin 7) (r : Fin 640) (y : Fin 640) :
    StableHlo.after (hostOps1_1 (F := Ideal)) V (Proc.devRef .tc main_v50) (ix5 b g h r y)
      = Scalar.select (V (Proc.devRef .tc main_v49) (ix2 r y)) (V (Proc.devRef .tc main_v43) (ix5 b g h r y)) (V (Proc.devRef .tc main_cst_6) ix0) := by
  after_reads_at
  rfl

theorem prob_line (h : Fin 7) (r : Fin 640) (j : Fin 20) (k : Fin 32) :
    StableHlo.after (hostOps1_2 (F := Ideal)) V (Proc.devRef .tc main_v62) (ix6 b g h r j k)
      = refProb (fun y => V (Proc.devRef .tc main_v50) (ix5 b g h r y)) (keyOf j k) := by
  after_reads_at
  rfl

theorem largest_line (h : Fin 7) (r : Fin 640) (j : Fin 20) :
    StableHlo.after (hostOps1_2 (F := Ideal)) V (Proc.devRef .tc main_v63) (ix5 b g h r j)
      = Finset.univ.fold max ⊥ fun k : Fin 32 => refProb (fun y => V (Proc.devRef .tc main_v50) (ix5 b g h r y)) (keyOf j k) := by
  after_reads_simp
  refine (blockMax_at b g _ h r j).trans (congrArg (fun f => Finset.univ.fold max ⊥ f) (funext fun k => ?_))
  clean_types
  pointwise
  rfl

/-- Every block's exponent and the test for zero, from the largest probabilities. -/
def exponents (M : FVec Ideal S3x2x7x640x20 .f32) : FVec Ideal S3x2x7x640x20 .f32 :=
  addf (Host.floor (Host.divf (Host.log (mulf M (broadcastInDim S3x2x7x640x20 ![] bcast_S_S3x2x7x640x20 (constant S_ .f32 0x37924925#32))))
    (broadcastInDim S3x2x7x640x20 ![] bcast_S_S3x2x7x640x20 (Host.log (constant S_ .f32 0x40000000#32)))))
    (broadcastInDim S3x2x7x640x20 ![] bcast_S_S3x2x7x640x20 (constant S_ .f32 0x3F800000#32))
def zeros (M : FVec Ideal S3x2x7x640x20 .f32) : IVec S3x2x7x640x20 1 :=
  cmpf .oeq M (broadcastInDim S3x2x7x640x20 ![] bcast_S_S3x2x7x640x20 (constant S_ .f32 0x00000000#32))

theorem exponents_at (M : FVec Ideal S3x2x7x640x20 .f32) (h : Fin 7) (r : Fin 640) (j : Fin 20) :
    exponents M (ix5 b g h r j) = refExponent (M (ix5 b g h r j)) := by
  pointwise [exponents]
  rfl
theorem zeros_at (M : FVec Ideal S3x2x7x640x20 .f32) (h : Fin 7) (r : Fin 640) (j : Fin 20) :
    zeros M (ix5 b g h r j) = Ideal.cmp .oeq (M (ix5 b g h r j)) 0 := by
  pointwise [zeros]

theorem exponent_line (h : Fin 7) (r : Fin 640) (j : Fin 20) :
    StableHlo.after (hostOps1_2 (F := Ideal)) V (Proc.devRef .tc main_v74) (ix5 b g h r j)
      = refExponent (StableHlo.after (hostOps1_2 (F := Ideal)) V (Proc.devRef .tc main_v63) (ix5 b g h r j)) := by
  have e : StableHlo.after (hostOps1_2 (F := Ideal)) V (Proc.devRef .tc main_v74)
      = exponents (StableHlo.after (hostOps1_2 (F := Ideal)) V (Proc.devRef .tc main_v63)) := by
    after_reads_simp
    rfl
  exact (congrFun e _).trans (exponents_at b g _ h r j)

theorem zero_line (h : Fin 7) (r : Fin 640) (j : Fin 20) :
    StableHlo.after (hostOps1_2 (F := Ideal)) V (Proc.devRef .tc main_v65) (ix5 b g h r j)
      = Ideal.cmp .oeq (StableHlo.after (hostOps1_2 (F := Ideal)) V (Proc.devRef .tc main_v63) (ix5 b g h r j)) 0 := by
  have e : StableHlo.after (hostOps1_2 (F := Ideal)) V (Proc.devRef .tc main_v65)
      = zeros (StableHlo.after (hostOps1_2 (F := Ideal)) V (Proc.devRef .tc main_v63)) := by
    after_reads_simp
    rfl
  exact (congrFun e _).trans (zeros_at b g _ h r j)

theorem cst15_line  :
    StableHlo.after (hostOps1_2 (F := Ideal)) V (Proc.devRef .tc main_cst_15) (ix0)
      = (0 : EReal) := by
  after_reads_at

theorem select_line (h : Fin 7) (r : Fin 640) (j : Fin 20) :
    StableHlo.after (hostOps1_3 (F := Ideal)) V (Proc.devRef .tc main_v75) (ix5 b g h r j)
      = Scalar.select (V (Proc.devRef .tc main_v65) (ix5 b g h r j)) (V (Proc.devRef .tc main_cst_15) ix0) (V (Proc.devRef .tc main_v74) (ix5 b g h r j)) := by
  after_reads_at
  rfl

theorem scale_line (h : Fin 7) (r : Fin 640) (j : Fin 20) :
    StableHlo.after (hostOps1_4 (F := Ideal)) V (Proc.devRef .tc main_v77) (ix5 b g h r j)
      = Ideal.pow (Ideal.ofBits .f32 0x40000000#32) (V (Proc.devRef .tc main_v75) (ix5 b g h r j)) := by
  after_reads_at

theorem scaled_line (h : Fin 7) (r : Fin 640) (j : Fin 20) (k : Fin 32) :
    StableHlo.after (hostOps1_4 (F := Ideal)) V (Proc.devRef .tc main_v83) (ix6 b g h r j k)
      = num (V (Proc.devRef .tc main_v62) (ix6 b g h r j k)) * Ideal.pow (Ideal.ofBits .f32 0x40000000#32) (-num (V (Proc.devRef .tc main_v75) (ix5 b g h r j))) := by
  after_reads_at

theorem cst18_line  :
    StableHlo.after (hostOps1_4 (F := Ideal)) V (Proc.devRef .tc main_cst_18) (ix0)
      = Ideal.ofBits .f32 0xC7600000#32 := by
  after_reads_at

theorem cst19_line  :
    StableHlo.after (hostOps1_4 (F := Ideal)) V (Proc.devRef .tc main_cst_19) (ix0)
      = Ideal.ofBits .f32 0x47600000#32 := by
  after_reads_at

theorem clip_line (h : Fin 7) (r : Fin 640) (j : Fin 20) (k : Fin 32) :
    StableHlo.after (hostOps1_5 (F := Ideal)) V (Proc.devRef .tc main_v84) (ix6 b g h r j k)
      = min (num (V (Proc.devRef .tc main_cst_19) ix0)) (max (num (V (Proc.devRef .tc main_cst_18) ix0)) (num (V (Proc.devRef .tc main_v83) (ix6 b g h r j k)))) := by
  after_reads_at
  rfl

theorem out_line (r : Fin 640) (x : Fin 1792) :
    StableHlo.after (hostOps2 (F := Ideal)) V (Proc.devRef .tc main_v94) (ix3 b r x)
      = ∑ y : Fin 640, num (V (Proc.devRef .tc main_v39) (ix4 b (keyHead x) y (dimOf x))) * (num (V (Proc.devRef .tc main_v85) (ix6 b (keyHead x) (within x) r (blockOf y) (placeOf y))) * num (V (Proc.devRef .tc main_v77) (ix5 b (keyHead x) (within x) r (blockOf y)))) := by
  after_reads_at
  rfl

end Cert.ReferenceIdeal.Hand

end
-- ==== Proof.RefCasts.lean ====
module

public import proofs.«01_k».proof.Proof.Spec
public import proofs.«01_k».proof.Proof.Gen.ReferenceIdeal.Frame
public import Idealize.ShloMosaic.Lib.Pipeline.ValueKit
public import Idealize.ShloMosaic.Lib.Pointwise

@[expose] public section

noncomputable section

/-!
# The reference's two casting kernels

Over the extended reals a change of float format is the identity, so each of the two kernels copies its operands.
-/

namespace Cert.ReferenceIdeal.Hand

open Idealize.ShloMosaic Idealize.ShloMosaic.TcCoe Idealize.ShloMosaic.Tactic
open Cert.ReferenceIdeal.Gen Cert.Mx

variable (m : (ℓ : Loc nD τ sig) → Buf (Elt Ideal) ℓ) (ρ : Dev nD → PrngReg)
variable (V : (c : Dev nD) → (b : Ref sig .tc) → Buf (Elt Ideal) ((c.tc : Thread nD τ).loc b))

theorem codes_q (c : Dev nD) : (dat0 V c).arrAt 3 cfg0.N = V c main_arg0 := by
  refine (dat0 V c).arrAt_eq_of_covers 3 _ (by decide +kernel) fun t _ y => ?_
  blk_simp
  rw [after0_3]
  frame_out [out0_3, k0_pay1, iblk0]
  rfl

theorem codes_k (c : Dev nD) : (dat0 V c).arrAt 4 cfg0.N = V c main_arg2 := by
  refine (dat0 V c).arrAt_eq_of_covers 4 _ (by decide +kernel) fun t _ y => ?_
  blk_simp
  rw [after0_4]
  frame_out [out0_4, k0_pay2, iblk0]
  rfl

theorem codes_v (c : Dev nD) : (dat0 V c).arrAt 5 cfg0.N = V c main_arg4 := by
  refine (dat0 V c).arrAt_eq_of_covers 5 _ (by decide +kernel) fun t _ y => ?_
  blk_simp
  rw [after0_5]
  frame_out [out0_5, k0_pay3, iblk0]
  rfl

theorem to_e5m2 (c : Dev nD) : (dat1 V c).arrAt 1 cfg1.N = V c main_v84 := by
  refine (dat1 V c).arrAt_eq_of_covers 1 _ (by decide +kernel) fun t _ y => ?_
  blk_simp
  rw [after1_1]
  frame_out [out1_1, k1_pay1, iblk1]
  rw [Idealize.ShloMosaic.shapeCast_self]
  rfl

end Cert.ReferenceIdeal.Hand

end
-- ==== Proof.RefValue.lean ====
module

public import proofs.«01_k».proof.Proof.RefLines
public import proofs.«01_k».proof.Proof.RefCasts

@[expose] public section

noncomputable section

/-!
# What the reference's result array holds

The reference's stages, one after the other, as functions of the argument arrays.
-/

namespace Cert.ReferenceIdeal.Hand

open Idealize.ShloMosaic Idealize.ShloMosaic.TcCoe Idealize.ShloMosaic.Tactic
open Cert.ReferenceIdeal.Gen Cert.Mx

section Stages

variable (A : Args) (b : Fin 3) (g : Fin 2) (h : Fin 7) (r : Fin 640)

/-- Decoded queries, keys and values. -/
def refQ (d : Fin 128) : EReal := num (A.q (ix4 b r (head g h) d)) * refScale (A.qs (ix4 b r (head g h) (quarter d)))
def refK (y : Fin 640) (d : Fin 128) : EReal := num (A.k (ix4 b y g d)) * refScale (A.ks (ix4 b y g (quarter d)))
def refV (y : Fin 640) (d : Fin 128) : EReal := num (A.v (ix4 b y g d)) * refScale (A.vs (ix4 b (blockOf y) g d))
/-- The scores of a query against every key; those of later keys are minus infinity. -/
def refScore (y : Fin 640) : EReal :=
  Scalar.select (IntOp.cmpi CmpIPredicate.sle (BitVec.ofNat 32 y.val) (BitVec.ofNat 32 r.val))
    (Ideal.div (∑ d : Fin 128, refQ A b g h r d * refK A b g y d) (Ideal.sqrt (Ideal.ofBits .f32 0x43000000#32))) (Ideal.ofBits .f32 0xFF800000#32)

end Stages

/-- The largest probability of a block, the block's exponent, and the codes. -/
def refLargest (S : Fin 640 → EReal) (j : Fin 20) : EReal := Finset.univ.fold max ⊥ fun k : Fin 32 => refProb S (keyOf j k)
def refExp (S : Fin 640 → EReal) (j : Fin 20) : EReal :=
  Scalar.select (Ideal.cmp .oeq (refLargest S j) 0) 0 (refExponent (refLargest S j))
def refCode (S : Fin 640 → EReal) (j : Fin 20) (k : Fin 32) : EReal :=
  min (Ideal.ofBits .f32 0x47600000#32) (max (Ideal.ofBits .f32 0xC7600000#32)
    (refProb S (keyOf j k) * Ideal.pow (Ideal.ofBits .f32 0x40000000#32) (-refExp S j)))
/-- The result. -/
def refOut (A : Args) (b : Fin 3) (g : Fin 2) (h : Fin 7) (r : Fin 640) (d : Fin 128) : EReal :=
  ∑ y : Fin 640, refV A b g y d * (refCode (refScore A b g h r) (blockOf y) (placeOf y)
    * Ideal.pow (Ideal.ofBits .f32 0x40000000#32) (refExp (refScore A b g h r) (blockOf y)))

variable (m : (ℓ : Loc nD τ sig) → Buf (Elt Ideal) ℓ) (ρ : Dev nD → PrngReg) (c : Dev nD)

/-- The argument arrays of core `c`. -/
def args : Args where
  q := m ((c.tc : Thread nD τ).loc main_arg0)
  qs := m ((c.tc : Thread nD τ).loc main_arg1)
  k := m ((c.tc : Thread nD τ).loc main_arg2)
  ks := m ((c.tc : Thread nD τ).loc main_arg3)
  v := m ((c.tc : Thread nD τ).loc main_arg4)
  vs := m ((c.tc : Thread nD τ).loc main_arg5)

theorem W1_q : W1 m ρ c (Proc.devRef .tc main_v0_0) = (args m c).q := (W1_arr m ρ c 3).trans (codes_q (V0 m ρ) c)
theorem W1_k : W1 m ρ c (Proc.devRef .tc main_v0_1) = (args m c).k := (W1_arr m ρ c 4).trans (codes_k (V0 m ρ) c)
theorem W1_v : W1 m ρ c (Proc.devRef .tc main_v0_2) = (args m c).v := (W1_arr m ρ c 5).trans (codes_v (V0 m ρ) c)
theorem W1_qs : W1 m ρ c (Proc.devRef .tc main_arg1) = (args m c).qs := W1_args m ρ c main_arg1 (by decide)
theorem W1_ks : W1 m ρ c (Proc.devRef .tc main_arg3) = (args m c).ks := W1_args m ρ c main_arg3 (by decide)
theorem W1_vs : W1 m ρ c (Proc.devRef .tc main_arg5) = (args m c).vs := W1_args m ρ c main_arg5 (by decide)

variable (b : Fin 3) (g : Fin 2) (h : Fin 7) (r : Fin 640)

theorem W8_values (y : Fin 640) (d : Fin 128) : W8 m ρ c (Proc.devRef .tc main_v39) (ix4 b g y d) = refV (args m c) b g y d := by
  rw [W8_of m ρ c main_v39 (by decide), W7_of m ρ c main_v39 (by decide), W6_of m ρ c main_v39 (by decide), W5_of m ρ c main_v39 (by decide),
    W4_of m ρ c main_v39 (by decide), W3_of m ρ c main_v39 (by decide)]
  refine (value_line (W1 m ρ c) b g y d).trans ?_
  rw [W1_v, W1_vs]
  rfl

theorem W3_score (y : Fin 640) : W3 m ρ c (Proc.devRef .tc main_v50) (ix5 b g h r y) = refScore (args m c) b g h r y := by
  refine (masked_line (W2 m ρ c) b g h r y).trans ?_
  rw [show W2 m ρ c (Proc.devRef .tc main_v49) (ix2 r y) = _ from causal_line (W1 m ρ c) r y,
    show W2 m ρ c (Proc.devRef .tc main_v43) (ix5 b g h r y) = _ from score_line (W1 m ρ c) b g h r y,
    show W2 m ρ c (Proc.devRef .tc main_cst_6) ix0 = _ from minus_inf_line (W1 m ρ c), W1_q, W1_qs, W1_k, W1_ks]
  rfl

theorem W3_scores : (fun y => W3 m ρ c (Proc.devRef .tc main_v50) (ix5 b g h r y)) = refScore (args m c) b g h r :=
  funext fun y => W3_score m ρ c b g h r y

theorem W4_largest (j : Fin 20) : W4 m ρ c (Proc.devRef .tc main_v63) (ix5 b g h r j) = refLargest (refScore (args m c) b g h r) j := by
  refine (largest_line (W3 m ρ c) b g h r j).trans ?_
  rw [W3_scores]
  rfl

theorem W5_exp (j : Fin 20) : W5 m ρ c (Proc.devRef .tc main_v75) (ix5 b g h r j) = refExp (refScore (args m c) b g h r) j := by
  refine (select_line (W4 m ρ c) b g h r j).trans ?_
  rw [show W4 m ρ c (Proc.devRef .tc main_v65) (ix5 b g h r j) = _ from zero_line (W3 m ρ c) b g h r j,
    show W4 m ρ c (Proc.devRef .tc main_v74) (ix5 b g h r j) = _ from exponent_line (W3 m ρ c) b g h r j,
    show W4 m ρ c (Proc.devRef .tc main_cst_15) ix0 = _ from cst15_line (W3 m ρ c),
    show StableHlo.after (hostOps1_2 (F := Ideal)) (W3 m ρ c) (Proc.devRef .tc main_v63) (ix5 b g h r j) = _ from W4_largest m ρ c b g h r j]
  rfl

theorem W8_scale (j : Fin 20) : W8 m ρ c (Proc.devRef .tc main_v77) (ix5 b g h r j)
    = Ideal.pow (Ideal.ofBits .f32 0x40000000#32) (refExp (refScore (args m c) b g h r) j) := by
  rw [W8_of m ρ c main_v77 (by decide), W7_of m ρ c main_v77 (by decide)]
  refine (scale_line (W5 m ρ c) b g h r j).trans ?_
  rw [W5_exp]

theorem W8_code (j : Fin 20) (k : Fin 32) : W8 m ρ c (Proc.devRef .tc main_v85) (ix6 b g h r j k) = refCode (refScore (args m c) b g h r) j k := by
  have e : W8 m ρ c (Proc.devRef .tc main_v85) = W7 m ρ c (Proc.devRef .tc main_v84) := (W8_arr m ρ c 1).trans (to_e5m2 (V7 m ρ) c)
  rw [e]
  refine (clip_line (W6 m ρ c) b g h r j k).trans ?_
  rw [show W6 m ρ c (Proc.devRef .tc main_cst_18) ix0 = _ from cst18_line (W5 m ρ c),
    show W6 m ρ c (Proc.devRef .tc main_cst_19) ix0 = _ from cst19_line (W5 m ρ c),
    show W6 m ρ c (Proc.devRef .tc main_v83) (ix6 b g h r j k) = _ from scaled_line (W5 m ρ c) b g h r j k, W5_exp,
    W5_of m ρ c main_v62 (by decide),
    show W4 m ρ c (Proc.devRef .tc main_v62) (ix6 b g h r j k) = _ from prob_line (W3 m ρ c) b g h r j k, W3_scores]
  rfl

/-- The reference's result, element by element. -/
theorem result_at (x : Fin 1792) : W9 m ρ c (Proc.devRef .tc main_v94) (ix3 b r x)
    = refOut (args m c) b (keyHead x) (within x) r (dimOf x) := by
  refine (out_line (W8 m ρ c) b r x).trans ?_
  refine Finset.sum_congr (M := EReal) rfl fun y _ => ?_
  rw [W8_values, W8_code, W8_scale]

end Cert.ReferenceIdeal.Hand

end
-- ==== Proof.EqScale.lean ====
module

public import proofs.«01_k».proof.Proof.RefValue

@[expose] public section

noncomputable section

/-!
# The scales of the two programs

The reference raises two to a byte less 127; the kernel puts the byte in an exponent field. For bytes from 1 to 254
these are the same number.
-/

namespace Cert.Mx

open Idealize.ShloMosaic Cert.ReferenceIdeal.Hand

/-- A byte whose exponent field is that of a normal number. -/
def Normal (s : BitVec 8) : Prop := 1 ≤ s.toNat ∧ s.toNat ≤ 254

theorem two_eq : Ideal.ofBits .f32 0x40000000#32 = ((2 : ℝ) : EReal) :=
  (f32_pat _ 128 (by decide) (by decide) (by decide) 1 (by norm_num)).trans (by norm_num)
theorem bias_eq : Ideal.ofBits .f32 0x42FE0000#32 = ((127 : ℝ) : EReal) := by
  simp [Ideal.ofBits, Ideal.ieee, -EReal.coe_mul]; norm_num
theorem dim_eq : Ideal.ofBits .f32 0x43000000#32 = ((128 : ℝ) : EReal) :=
  (f32_pat _ 134 (by decide) (by decide) (by decide) 7 (by norm_num)).trans (by norm_num)

/-- Two to an integer. -/
theorem pow_two (n : ℤ) : Ideal.pow (Ideal.ofBits .f32 0x40000000#32) (((n : ℝ)) : EReal) = (((2 : ℝ) ^ n : ℝ) : EReal) := by
  rw [two_eq]
  show ((Real.rpow 2 (n : ℝ) : ℝ) : EReal) = _
  exact congrArg _ (Real.rpow_intCast 2 n)

theorem byte_toInt (s : BitVec 8) : (BitVec.setWidth 32 s).toInt = (s.toNat : ℤ) := by
  have := s.isLt
  rw [BitVec.toInt_eq_toNat_cond, BitVec.toNat_setWidth]
  split <;> omega

theorem half_toNat (s : BitVec 8) : (half s).toNat = 128 * s.toNat := by
  have := s.isLt
  unfold half
  simp only [BitVec.toNat_shiftLeft, BitVec.toNat_setWidth, Nat.shiftLeft_eq]
  omega

theorem refScale_eq {s : BitVec 8} (h : Normal s) : refScale s = scaleOf s := by
  obtain ⟨h1, h2⟩ := h
  unfold refScale scaleOf
  rw [bf16_pow (half s) s.toNat (half_toNat s) (by omega) (by omega), bias_eq,
    show FloatOps.sitofp (F := Ideal) .f32 (BitVec.setWidth 32 s) = (((s.toNat : ℤ) : ℝ) : EReal) from
      congrArg (fun z : ℤ => ((z : ℝ) : EReal)) (byte_toInt s), ← EReal.coe_sub, ← pow_two]
  congr 2
  push_cast
  ring

end Cert.Mx

end
-- ==== Proof.EqSoftmax.lean ====
module

public import proofs.«01_k».proof.Proof.EqScale

@[expose] public section

noncomputable section

/-!
# The softmax of the two programs

The reference divides the scores by a positive number, takes natural exponentials against the largest, and sums over
all keys. The kernel takes powers of two of the unscaled scores times one constant, and sums over the keys of its
tiles. Probabilities are the same, and are nonnegative real numbers, also where scores are infinite.
-/

namespace Cert.Mx

open Idealize.ShloMosaic Cert.ReferenceIdeal.Hand

variable {t : ℝ} (ht : 0 < t)

include ht in
/-- An exponential of scaled scores is a power of two of unscaled ones. -/
theorem exp_eq_wt (a m : EReal) : Ideal.exp (a * (t : EReal) - m * (t : EReal)) = wt (t * (Real.log 2)⁻¹) m a := by
  have hl : 0 < Real.log 2 := Real.log_pos (by norm_num)
  have hk : 0 < t * (Real.log 2)⁻¹ := mul_pos ht (inv_pos.mpr hl)
  unfold wt
  generalize hkk : t * (Real.log 2)⁻¹ = k at hk
  induction a using EReal.rec with
  | bot =>
    rw [EReal.bot_mul_coe_of_pos ht, EReal.bot_mul_coe_of_pos hk, sub_eq_add_neg, sub_eq_add_neg, EReal.bot_add, EReal.bot_add]
    rfl
  | top =>
    rw [EReal.top_mul_coe_of_pos ht, EReal.top_mul_coe_of_pos hk]
    induction m using EReal.rec with
    | bot => rw [EReal.bot_mul_coe_of_pos ht, EReal.bot_mul_coe_of_pos hk]; rfl
    | top => rw [EReal.top_mul_coe_of_pos ht, EReal.top_mul_coe_of_pos hk]; rfl
    | coe m => rw [← EReal.coe_mul, ← EReal.coe_mul, EReal.top_sub_coe, EReal.top_sub_coe]; rfl
  | coe a =>
    induction m using EReal.rec with
    | bot => rw [EReal.bot_mul_coe_of_pos ht, EReal.bot_mul_coe_of_pos hk, ← EReal.coe_mul, ← EReal.coe_mul, EReal.coe_sub_bot, EReal.coe_sub_bot]; rfl
    | top => rw [EReal.top_mul_coe_of_pos ht, EReal.top_mul_coe_of_pos hk, ← EReal.coe_mul, ← EReal.coe_mul, EReal.sub_top, EReal.sub_top]; rfl
    | coe m =>
      rw [← EReal.coe_mul, ← EReal.coe_mul, ← EReal.coe_mul, ← EReal.coe_mul, ← EReal.coe_sub, ← EReal.coe_sub]
      show ((Real.exp (a * t - m * t) : ℝ) : EReal) = ((Real.rpow 2 (a * k - m * k) : ℝ) : EReal)
      refine congrArg _ ((Real.rpow_def_of_pos two_pos _).trans ?_).symm
      rw [← hkk]
      congr 1
      field_simp

theorem wt_bot {k : ℝ} (hk : 0 < k) (m : EReal) : wt k m ⊥ = 0 := by
  unfold wt
  rw [EReal.bot_mul_coe_of_pos hk, sub_eq_add_neg, EReal.bot_add]
  rfl

/-! ## A row whose scores after `n` are minus infinity -/

variable {n : ℕ} (hn : n ≤ 640) {U : ℕ → EReal} (hU : ∀ y, n ≤ y → U y = ⊥) {S : Fin 640 → EReal} (hS : ∀ y, S y = U y.val * (t : EReal))

include ht hn hU hS in
theorem refMax_eq : refMax S = (Finset.range n).sup U * (t : EReal) := by
  have hb : (⊥ : EReal) * (t : EReal) = ⊥ := EReal.bot_mul_coe_of_pos ht
  have hm : Monotone fun a : EReal => a * (t : EReal) := fun a b h => mul_le_mul_of_nonneg_right h (EReal.coe_nonneg.mpr ht.le)
  unfold refMax
  rw [minusInf]
  show Finset.univ.sup S = _
  refine le_antisymm (Finset.sup_le fun y _ => ?_) ?_
  · rw [hS]
    refine hm ?_
    by_cases h : y.val < n
    · exact Finset.le_sup (f := U) (Finset.mem_range.mpr h)
    · rw [hU _ (not_lt.mp h)]; exact bot_le
  · rw [Finset.comp_sup_eq_sup_comp_of_is_total (fun a : EReal => a * (t : EReal)) hm hb]
    refine Finset.sup_le fun y hy => ?_
    have hy' : y < 640 := (Finset.mem_range.mp hy).trans_le hn
    exact (hS ⟨y, hy'⟩).symm.le.trans (Finset.le_sup (f := S) (Finset.mem_univ _))

include ht hn hU hS in
/-- The reference's probability of a key. -/
theorem refProb_eq {k : ℝ} (hk : k = t * (Real.log 2)⁻¹) (y : Fin 640) :
    refProb S y = wt k ((Finset.range n).sup U) (U y.val) * Ideal.div 1 (∑ x ∈ Finset.range n, wt k ((Finset.range n).sup U) (U x)) := by
  have hkp : 0 < k := hk ▸ mul_pos ht (inv_pos.mpr (Real.log_pos (by norm_num)))
  have e : ∀ x, Ideal.exp (S x - refMax S) = wt k ((Finset.range n).sup U) (U x.val) := fun x => by
    rw [refMax_eq ht hn hU hS, hS, exp_eq_wt ht, hk]
  unfold refProb
  rw [e, Finset.sum_congr rfl fun x _ => e x, Fin.sum_univ_eq_sum_range (fun x => wt k ((Finset.range n).sup U) (U x)) 640]
  congr 2
  refine (Finset.sum_subset (Finset.range_subset_range.mpr hn) fun x _ hx => ?_).symm
  rw [hU x (by simpa using hx), wt_bot hkp]

/-- A probability is a nonnegative real number. -/
theorem prob_real {k : ℝ} (hk : 0 < k) (n : ℕ) (U : ℕ → EReal) (hU : ∀ y, n ≤ y → U y = ⊥) (y : ℕ) : ∃ p : ℝ, 0 ≤ p ∧
    wt k ((Finset.range n).sup U) (U y) * Ideal.div 1 (∑ x ∈ Finset.range n, wt k ((Finset.range n).sup U) (U x)) = (p : EReal) := by
  generalize hM : (Finset.range n).sup U = M
  have hle : ∀ x, U x ≤ M := fun x => by
    by_cases h : x < n
    · exact hM ▸ Finset.le_sup (f := U) (Finset.mem_range.mpr h)
    · rw [hU x (not_lt.mp h)]; exact bot_le
  choose w hw hw0 hw1 using fun x => wt_real hk (hle x)
  have hs : ∑ x ∈ Finset.range n, wt k M (U x) = ((∑ x ∈ Finset.range n, w x : ℝ) : EReal) := by
    rw [Finset.sum_congr rfl fun x _ => hw x]
    induction Finset.range n using Finset.cons_induction with
    | empty => simp
    | cons a s ha ih => rw [Finset.sum_cons, Finset.sum_cons, EReal.coe_add, ← ih]
  rw [hs, hw]
  have hT : 0 ≤ ∑ x ∈ Finset.range n, w x := Finset.sum_nonneg fun x _ => hw0 x
  by_cases h0 : ∑ x ∈ Finset.range n, w x = 0
  · refine ⟨0, le_rfl, ?_⟩
    have : w y = 0 := by
      by_cases h : y < n
      · exact (Finset.sum_eq_zero_iff_of_nonneg fun x _ => hw0 x).mp h0 y (Finset.mem_range.mpr h)
      · have := hw y
        rw [hU y (not_lt.mp h), wt_bot hk] at this
        exact (EReal.coe_eq_zero.mp this.symm)
    rw [this, EReal.coe_zero, zero_mul]
  · refine ⟨w y * (∑ x ∈ Finset.range n, w x)⁻¹, mul_nonneg (hw0 y) (inv_nonneg.mpr hT), ?_⟩
    unfold Ideal.div
    rw [if_neg (fun h => h0 (EReal.coe_eq_zero.mp h)), one_mul, ← EReal.coe_inv, ← EReal.coe_mul]

end Cert.Mx

end
-- ==== Proof.EqQuant.lean ====
module

public import proofs.«01_k».proof.Proof.EqScale

@[expose] public section

noncomputable section

/-!
# The reference's block quantiser

A nonnegative probability, divided by its block's power of two, clipped, and multiplied by that power again, is
itself: the power is large enough that the clip does not bind.
-/

namespace Cert.Mx

open Idealize.ShloMosaic Cert.ReferenceIdeal.Hand

/-- The largest of finitely many real numbers is one of them. -/
theorem fold_max_real (p : Fin 32 → ℝ) : ∃ a : ℝ, Finset.univ.fold max (⊥ : EReal) (fun k => ((p k : ℝ) : EReal)) = (a : EReal) ∧ (∀ k, p k ≤ a) ∧ ∃ k, a = p k := by
  obtain ⟨k0, -, hk0⟩ := Finset.exists_max_image (Finset.univ : Finset (Fin 32)) p ⟨0, Finset.mem_univ _⟩
  refine ⟨p k0, ?_, fun k => hk0 k (Finset.mem_univ k), k0, rfl⟩
  show Finset.univ.sup (fun k => ((p k : ℝ) : EReal)) = _
  exact le_antisymm (Finset.sup_le fun k hk => EReal.coe_le_coe_iff.mpr (hk0 k hk)) (Finset.le_sup (f := fun k => ((p k : ℝ) : EReal)) (Finset.mem_univ k0))

/-- The exponent of a block: an integer whose power of two times the largest code is not below the block. -/
theorem exponent_real {a : ℝ} (ha : 0 ≤ a) : ∃ n : ℤ,
    Scalar.select (Ideal.cmp .oeq (a : EReal) 0) 0 (refExponent (a : EReal)) = ((n : ℝ) : EReal) ∧ a ≤ 57344 * (2 : ℝ) ^ n := by
  by_cases h0 : a = 0
  · refine ⟨0, ?_, by rw [h0]; norm_num⟩
    rw [show Ideal.cmp .oeq (a : EReal) 0 = 1#1 by simp [Ideal.cmp, h0], ValueIdx.select_one]
    simp
  · have hp : 0 < a := lt_of_le_of_ne ha (Ne.symm h0)
    have hi : 0 < invCode := by unfold invCode; norm_num
    have hl : 0 < Real.log 2 := Real.log_pos (by norm_num)
    refine ⟨⌊Real.log (a * invCode) / Real.log 2⌋ + 1, ?_, ?_⟩
    · rw [show Ideal.cmp .oeq (a : EReal) 0 = 0#1 by simp [Ideal.cmp, h0], ValueIdx.select_zero]
      unfold refExponent
      rw [invCode_eq, two_eq, ← EReal.coe_mul,
        show Ideal.log ((a * invCode : ℝ) : EReal) = ((Real.log (a * invCode) : ℝ) : EReal) from if_neg (not_le.mpr (mul_pos hp hi)),
        show Ideal.log ((2 : ℝ) : EReal) = ((Real.log 2 : ℝ) : EReal) from if_neg (by norm_num)]
      unfold Ideal.div
      rw [if_neg (fun h => hl.ne' (EReal.coe_eq_zero.mp h)), ← EReal.coe_inv, ← EReal.coe_mul, ← div_eq_mul_inv]
      show ((⌊Real.log (a * invCode) / Real.log 2⌋ : ℝ) : EReal) + 1 = _
      push_cast
      rfl
    · have h1 : Real.log (a * invCode) / Real.log 2 < ((⌊Real.log (a * invCode) / Real.log 2⌋ + 1 : ℤ) : ℝ) := by
        push_cast; exact Int.lt_floor_add_one _
      generalize ⌊Real.log (a * invCode) / Real.log 2⌋ + 1 = n at h1
      rw [div_lt_iff₀ hl, ← Real.log_zpow, Real.log_lt_log_iff (mul_pos hp hi) (by positivity)] at h1
      have h7 : (1 : ℝ) ≤ invCode * 57344 := by unfold invCode; norm_num
      nlinarith

variable {S : Fin 640 → EReal} {P : Fin 640 → ℝ} (hP : ∀ y, refProb S y = (P y : EReal)) (h0 : ∀ y, 0 ≤ P y)

include hP h0 in
/-- Quantised and scaled again, a probability is itself. -/
theorem quantised (j : Fin 20) (k : Fin 32) :
    refCode S j k * Ideal.pow (Ideal.ofBits .f32 0x40000000#32) (refExp S j) = refProb S (keyOf j k) := by
  obtain ⟨a, ha, hle, k1, hk1⟩ := fold_max_real fun k => P (keyOf j k)
  have hL : refLargest S j = (a : EReal) := by
    unfold refLargest
    rw [← ha]
    exact congrArg (Finset.univ.fold max ⊥) (funext fun k => hP (keyOf j k))
  obtain ⟨n, hn, hb⟩ := exponent_real (a := a) (hk1 ▸ h0 _)
  have hE : refExp S j = ((n : ℝ) : EReal) := by
    unfold refExp; rw [hL, hn]
  unfold refCode
  rw [hE, ← EReal.coe_neg, ← Int.cast_neg, pow_two, pow_two, hP, codeMax, codeMin]
  rw [← EReal.coe_mul, ← EReal.coe_strictMono.monotone.map_max, ← EReal.coe_strictMono.monotone.map_min, ← EReal.coe_mul]
  refine congrArg _ ?_
  have hp : (0 : ℝ) < 2 ^ n := by positivity
  have hu : P (keyOf j k) * (2 : ℝ) ^ (-n) ≤ 57344 := by
    rw [zpow_neg, ← div_eq_mul_inv, div_le_iff₀ hp]
    exact (hle k).trans hb
  have hl : (-57344 : ℝ) ≤ P (keyOf j k) * (2 : ℝ) ^ (-n) :=
    le_trans (by norm_num) (mul_nonneg (h0 _) (by positivity))
  rw [max_eq_right hl, min_eq_right hu, zpow_neg, mul_assoc, inv_mul_cancel₀ hp.ne', mul_one]

end Cert.Mx

end
-- ==== Proof.Equation.lean ====
module

public import proofs.«01_k».proof.Proof.EqSoftmax
public import proofs.«01_k».proof.Proof.EqQuant

@[expose] public section

noncomputable section

/-!
# The reference's result is the kernel's

Element by element, for scale bytes from 1 to 254.
-/

namespace Cert.Mx

open Idealize.ShloMosaic Cert.ReferenceIdeal.Hand

/-- Every scale byte is that of a normal number. -/
structure Args.Normal (A : Args) : Prop where
  qs : ∀ i, Mx.Normal (A.qs i)
  ks : ∀ i, Mx.Normal (A.ks i)
  vs : ∀ i, Mx.Normal (A.vs i)

/-- The factor of the scores, and that of the kernel's exponents of two. -/
def scoreScale : ℝ := (Real.sqrt 128)⁻¹
theorem scoreScale_pos : 0 < scoreScale := inv_pos.mpr (Real.sqrt_pos.mpr (by norm_num))

theorem div_sqrt (a : EReal) : Ideal.div a (Ideal.sqrt (Ideal.ofBits .f32 0x43000000#32)) = a * (scoreScale : EReal) := by
  have h : 0 < Real.sqrt 128 := Real.sqrt_pos.mpr (by norm_num)
  rw [dim_eq, show Ideal.sqrt ((128 : ℝ) : EReal) = ((Real.sqrt 128 : ℝ) : EReal) from if_neg (by norm_num)]
  unfold Ideal.div scoreScale
  rw [if_neg (fun e => h.ne' (EReal.coe_eq_zero.mp e)), EReal.coe_inv]

variable {A : Args} (hA : A.Normal) (b : Fin 3) (g : Fin 2) (h : Fin 7) (r : Fin 640)

include hA in
theorem refQ_eq (d : Fin 128) : refQ A b g h r d = qd (A.block b g) h r d := by
  unfold refQ
  rw [refScale_eq (hA.qs _)]
  rfl

include hA in
theorem refK_eq (y : Fin 640) (d : Fin 128) : refK A b g y d = kd (A.block b g) y d := by
  unfold refK
  rw [refScale_eq (hA.ks _)]
  rfl

include hA in
theorem refV_eq (y : Fin 640) (d : Fin 128) : refV A b g y d = vd (A.block b g) y d := by
  unfold refV
  rw [refScale_eq (hA.vs _)]
  rfl

theorem row_toInt (y : Fin 640) : (BitVec.ofNat 32 y.val).toInt = (y.val : ℤ) := by
  have := y.isLt
  rw [BitVec.toInt_eq_toNat_cond, BitVec.toNat_ofNat]
  split <;> omega

theorem bit_zero (z : BitVec 1) (hz : ¬z = 1#1) : z = 0#1 := by revert z; decide

include hA in
/-- The reference's scores are the kernel's, divided by the square root of the dimension. -/
theorem refScore_eq (y : Fin 640) : refScore A b g h r y = seen (A.block b g) h r y.val * (scoreScale : EReal) := by
  unfold refScore seen
  rw [div_sqrt, minusInf]
  have hc : IntOp.cmpi CmpIPredicate.sle (BitVec.ofNat 32 y.val) (BitVec.ofNat 32 r.val) = 1#1 ↔ y.val ≤ r.val := by
    rw [IntOp.cmpi_sle, row_toInt, row_toInt, Nat.cast_le]
  by_cases hy : y.val ≤ r.val
  · rw [hc.mpr hy, ValueIdx.select_one, if_pos hy]
    unfold dotKey
    rw [dif_pos y.isLt]
    refine congrArg (· * (scoreScale : EReal)) (Finset.sum_congr rfl fun d _ => ?_)
    rw [refQ_eq hA, refK_eq hA, mul_comm]
  · rw [if_neg hy, EReal.bot_mul_coe_of_pos scoreScale_pos]
    generalize IntOp.cmpi CmpIPredicate.sle (BitVec.ofNat 32 y.val) (BitVec.ofNat 32 r.val) = z at hc
    rw [bit_zero z (mt hc.mp hy), ValueIdx.select_zero]

theorem seen_bot (I : Mem Ideal) (y : ℕ) (hy : span r ≤ y) : seen I h r y = ⊥ := by
  have : r.val < span r := by unfold span nk; omega
  exact if_neg (by omega)

theorem key_split (y : Fin 640) : keyOf (blockOf y) (placeOf y) = y := by
  apply Fin.ext
  show y.val / 32 * 32 + y.val % 32 = y.val
  omega

variable {k : ℝ} (hk : k = scoreScale * (Real.log 2)⁻¹)

include hA hk in
/-- The two results. -/
theorem refOut_eq (d : Fin 128) : refOut A b g h r d = attn (A.block b g) k h r d := by
  have hkp : 0 < k := hk ▸ mul_pos scoreScale_pos (inv_pos.mpr (Real.log_pos (by norm_num)))
  have hp : ∀ y, refProb (refScore A b g h r) y = rowWeight (A.block b g) k h r y.val * rowNorm (A.block b g) k h r := fun y =>
    refProb_eq scoreScale_pos (span_le r) (seen_bot h r (A.block b g)) (refScore_eq hA b g h r) hk y
  choose P hP0 hP using fun y : ℕ => prob_real hkp (span r) (seen (A.block b g) h r) (seen_bot h r (A.block b g)) y
  have hq : ∀ y : Fin 640, refCode (refScore A b g h r) (blockOf y) (placeOf y)
      * Ideal.pow (Ideal.ofBits .f32 0x40000000#32) (refExp (refScore A b g h r) (blockOf y))
      = rowWeight (A.block b g) k h r y.val * rowNorm (A.block b g) k h r := fun y => by
    rw [quantised (P := fun y => P y.val) (fun y => (hp y).trans (hP y.val)) (fun y => hP0 y.val), key_split, hp]
  unfold refOut attn
  rw [Finset.sum_congr rfl fun y _ => congrArg₂ (· * ·) (refV_eq hA b g y d) (hq y)]
  let f : ℕ → EReal := fun y => if hy : y < 640 then vd (A.block b g) ⟨y, hy⟩ d * (rowWeight (A.block b g) k h r y * rowNorm (A.block b g) k h r) else 0
  have e1 : ∀ y : Fin 640, vd (A.block b g) y d * (rowWeight (A.block b g) k h r y.val * rowNorm (A.block b g) k h r) = f y.val := fun y => by
    show _ = dite (y.val < 640) _ _
    rw [dif_pos y.isLt]
  have e2 : ∀ y : Fin (span r), vd (A.block b g) ⟨y.val, y.isLt.trans_le (span_le r)⟩ d * (rowWeight (A.block b g) k h r y.val * rowNorm (A.block b g) k h r) = f y.val :=
    fun y => by
      show _ = dite (y.val < 640) _ _
      rw [dif_pos (y.isLt.trans_le (span_le r))]
  rw [Finset.sum_congr rfl fun y _ => e1 y, Finset.sum_congr rfl fun y _ => e2 y, Fin.sum_univ_eq_sum_range f 640, Fin.sum_univ_eq_sum_range f (span r)]
  refine (Finset.sum_subset (Finset.range_subset_range.mpr (span_le r)) fun y hy hx => ?_).symm
  show (if hy : y < 640 then vd (A.block b g) ⟨y, hy⟩ d * (rowWeight (A.block b g) k h r y * rowNorm (A.block b g) k h r) else 0) = 0
  rw [dif_pos (Finset.mem_range.mp hy)]
  have : rowWeight (A.block b g) k h r y = 0 := by
    unfold rowWeight
    rw [seen_bot h r _ y (by simpa using hx), wt_bot hkp]
  have hz : rowWeight (A.block b g) k h r y * rowNorm (A.block b g) k h r = 0 := by rw [this, zero_mul]
  rw [hz, mul_zero]

end Cert.Mx

end
-- ==== Proof.Bytes.lean ====
module

public import proofs.«01_k».proof.Proof.Equation
public import proofs.«01_k».proof.Pre_scales_encode_powers_of_two
public import Idealize.ShloMosaic.Lib.ReduceAll

@[expose] public section

noncomputable section

/-!
# The precondition

What the predicate on the arguments says: every scale byte is between 1 and 254.
-/

namespace Cert.Mx

open Idealize.ShloMosaic

/-- One comparison of the predicate, read back. -/
theorem normal_of (s : BitVec 8)
    (h : IntOp.andi (IntOp.cmpi .sge (BitVec.setWidth 32 s) 1#32) (IntOp.cmpi .sle (BitVec.setWidth 32 s) 254#32) = 1#1) : Normal s := by
  obtain ⟨h1, h2⟩ := IntOp.andi_eq_one.mp h
  rw [IntOp.cmpi_sge, byte_toInt] at h1
  rw [IntOp.cmpi_sle, byte_toInt] at h2
  have e1 : (1#32 : BitVec 32).toInt = 1 := by decide
  have e2 : (254#32 : BitVec 32).toInt = 254 := by decide
  exact ⟨by omega, by omega⟩

variable [Pre_scales_encode_powers_of_two.Facts] (A : Args)

theorem normal_of_pre (h : Pre_scales_encode_powers_of_two.fn (F := Ideal) A.q A.qs A.k A.ks A.v A.vs = fun _ => 1#1) : A.Normal := by
  have hs : Subsingleton Pre_scales_encode_powers_of_two.S_.Idx := ⟨fun a b => funext fun i => i.elim0⟩
  have h0 := congrFun h ix0
  obtain ⟨h1, hv⟩ := IntOp.andi_eq_one.mp h0
  obtain ⟨hq, hk⟩ := IntOp.andi_eq_one.mp h1
  exact ⟨fun i => normal_of _ (Host.reduce_andi_all _ _ _ _ ix0 hq i), fun i => normal_of _ (Host.reduce_andi_all _ _ _ _ ix0 hk i),
    fun i => normal_of _ (Host.reduce_andi_all _ _ _ _ ix0 hv i)⟩

end Cert.Mx

end
-- ==== Proof.KernelValue.lean ====
module

public import proofs.«01_k».proof.Proof.Spec
public import proofs.«01_k».proof.Proof.KernelIdealFrame
public import Idealize.ShloMosaic.Lib.Pipeline.ValueKit
public import Idealize.ShloMosaic.Lib.StableHlo.ReadAt

@[expose] public section

noncomputable section

/-!
# What the kernel's result array holds

Every grid point writes the attention output of its blocks, so the result array is `Cert.Mx.Args.out` of the arguments.
-/

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal.Gen Cert.Mx

variable (m : (ℓ : Loc nD τ sig) → Buf (Elt Ideal) ℓ) (ρ : Dev nD → PrngReg)

/-- The argument arrays of core `c`. -/
def args (c : Dev nD) : Args where
  q := m ((c.tc : Thread nD τ).loc main_arg0)
  qs := m ((c.tc : Thread nD τ).loc main_arg1)
  k := m ((c.tc : Thread nD τ).loc main_arg2)
  ks := m ((c.tc : Thread nD τ).loc main_arg3)
  v := m ((c.tc : Thread nD τ).loc main_arg4)
  vs := m ((c.tc : Thread nD τ).loc main_arg5)

/-- The constant, `log₂ e / √128`. -/
def kexp : ℝ := (Real.sqrt 128)⁻¹ * (Real.log 2)⁻¹
theorem kexp_pos : 0 < kexp := mul_pos (inv_pos.mpr (Real.sqrt_pos.mpr (by norm_num))) (inv_pos.mpr (Real.log_pos (by norm_num)))
theorem cexp_eq : (cexp : Ideal .f32) = (kexp : EReal) := IdealRules.named_const.ideal_named_scalar _ _ _ _ rfl

/-- The batch element and the key head of a grid point. -/
def bat (t : Fin cfg0.N) : Fin 3 := grid0.coords t 0
def grp (t : Fin cfg0.N) : Fin 2 := grid0.coords t 1

theorem idx0 : ∀ t : Fin grid0.N, win0_0.index t = ![(bat t).val, (grp t).val, 0, 0] := by decide +kernel
theorem idx1 : ∀ t : Fin grid0.N, win0_1.index t = ![(bat t).val, (grp t).val, 0, 0] := by decide +kernel
theorem idx2 : ∀ t : Fin grid0.N, win0_2.index t = ![(bat t).val, (grp t).val, 0, 0] := by decide +kernel
theorem idx3 : ∀ t : Fin grid0.N, win0_3.index t = ![(bat t).val, (grp t).val, 0, 0] := by decide +kernel
theorem idx4 : ∀ t : Fin grid0.N, win0_4.index t = ![(bat t).val, (grp t).val, 0, 0] := by decide +kernel
theorem idx5 : ∀ t : Fin grid0.N, win0_5.index t = ![(bat t).val, (grp t).val, 0, 0] := by decide +kernel
theorem idx6 : ∀ t : Fin grid0.N, win0_6.index t = ![(bat t).val, 0, (grp t).val] := by decide +kernel

theorem block0 (c : Dev nD) (t : Fin cfg0.N) : (args m c).block (bat t) (grp t) .q = iblk m c 0 t := by
  funext y
  blk_simp [iblk, V]
  after_reads_simp
  show m (c, Proc.tc.devRef main_arg0) _ = _
  refine (Idealize.ShloMosaic.transpose_apply _ _ _ _ _ fun a => ?_).symm
  fin_cases a <;> blk_simp [idx0] <;> rfl

theorem block1 (c : Dev nD) (t : Fin cfg0.N) : (args m c).block (bat t) (grp t) .qs = iblk m c 1 t := by
  funext y
  blk_simp [iblk, V]
  after_reads_simp
  show m (c, Proc.tc.devRef main_arg1) _ = _
  refine (Idealize.ShloMosaic.transpose_apply _ _ _ _ _ fun a => ?_).symm
  fin_cases a <;> blk_simp [idx1] <;> rfl

theorem block2 (c : Dev nD) (t : Fin cfg0.N) : (args m c).block (bat t) (grp t) .k = iblk m c 2 t := by
  funext y
  blk_simp [iblk, V]
  after_reads_simp
  show m (c, Proc.tc.devRef main_arg2) _ = _
  refine (Idealize.ShloMosaic.transpose_apply _ _ _ _ _ fun a => ?_).symm
  fin_cases a <;> blk_simp [idx2] <;> rfl

theorem block3 (c : Dev nD) (t : Fin cfg0.N) : (args m c).block (bat t) (grp t) .ks = iblk m c 3 t := by
  funext y
  blk_simp [iblk, V]
  after_reads_simp
  show m (c, Proc.tc.devRef main_arg3) _ = _
  refine (Idealize.ShloMosaic.transpose_apply _ _ _ _ _ fun a => ?_).symm
  fin_cases a <;> blk_simp [idx3] <;> rfl

theorem block4 (c : Dev nD) (t : Fin cfg0.N) : (args m c).block (bat t) (grp t) .v = iblk m c 4 t := by
  funext y
  blk_simp [iblk, V]
  after_reads_simp
  show m (c, Proc.tc.devRef main_arg4) _ = _
  refine (Idealize.ShloMosaic.transpose_apply _ _ _ _ _ fun a => ?_).symm
  fin_cases a <;> blk_simp [idx4] <;> rfl

theorem block5 (c : Dev nD) (t : Fin cfg0.N) : (args m c).block (bat t) (grp t) .vs = iblk m c 5 t := by
  funext y
  blk_simp [iblk, V]
  after_reads_simp
  show m (c, Proc.tc.devRef main_arg5) _ = _
  refine (Idealize.ShloMosaic.transpose_apply _ _ _ _ _ fun a => ?_).symm
  fin_cases a <;> blk_simp [idx5] <;> rfl

/-- What the body writes at a grid point. -/
def tileOut (c : Dev nD) (t : Fin cfg0.N) : Slot.o.shp.Idx → Elt Ideal Slot.o.elt := fun i : (⟨3, ![1, 640, 896]⟩ : Shape).Idx =>
  attn ((args m c).block (bat t) (grp t)) kexp (headOf (i 2)) (i 1) (colOf (i 2))

theorem same_inputs (c : Dev nD) (t : Fin cfg0.N) (σ : Mem Ideal) (h : Inputs m c t σ) : Same ((args m c).block (bat t) (grp t)) σ := by
  intro a ha
  cases a <;> first | exact ha.elim | skip
  · exact h.q.trans (block0 m c t).symm
  · exact h.qs.trans (block1 m c t).symm
  · exact h.k.trans (block2 m c t).symm
  · exact h.ks.trans (block3 m c t).symm
  · exact h.v.trans (block4 m c t).symm
  · exact h.vs.trans (block5 m c t).symm

/-- A finished result buffer, at any index. -/
theorem done_eq {I σ : Mem Ideal} (hd : Done I kexp 20 σ) : σ .o = fun i : (⟨3, ![1, 640, 896]⟩ : Shape).Idx =>
    attn I kexp (headOf (i 2)) (i 1) (colOf (i 2)) := by
  funext (i : (⟨3, ![1, 640, 896]⟩ : Shape).Idx)
  refine Eq.trans (congrArg (σ .o) ?_) (hd (i 1) (headOf (i 2)) (colOf (i 2)) (headOf_bound _ _))
  funext a
  fin_cases a
  · exact Subsingleton.elim (α := Fin 1) _ _
  · rfl
  · exact Fin.ext (col_split (i 2)).symm

theorem body_writes (c : Dev nD) (t : Fin cfg0.N) (σ : Mem Ideal) (h : Inputs m c t σ) :
    (ev (body cexp) σ).2 .o = tileOut m c t := by
  rw [cexp_eq]
  exact done_eq (body_post kexp_pos (same_inputs m c t σ h))

theorem out_at (c : Dev nD) (b : Fin 3) (g : Fin 2) (r : Fin 640) (x : Fin 896) :
    (args m c).out kexp (ix3 b r (outCol g x)) = attn ((args m c).block b g) kexp (headOf x) r (colOf x) := by
  show attn ((args m c).block b (keyHead (outCol g x))) kexp (within (outCol g x)) r (dimOf (outCol g x)) = _
  rw [keyHead_outCol, within_outCol, dimOf_outCol]

theorem emb6 (t : Fin cfg0.N) (y : ((cfg0.win 6).xblock (cfg0.grid.coords t)).Idx) :
    (win0_6.blk t).view.emb y = ix3 (bat t) (y 1 : Fin 640) (outCol (grp t) (y 2 : Fin 896)) := by
  blk_ext [idx6] <;> rfl

/-- The result array, tile by tile. -/
theorem array (c : Dev nD) : (dats m (tileOut m) 0 c).arrAt 6 cfg0.N = (args m c).out kexp := by
  refine (dats m (tileOut m) 0 c).arrAt_eq_of_covers 6 ((args m c).out kexp) (by decide +kernel) fun t hf y => ?_
  blk_simp
  rw [after0_6, emb6]
  exact (out_at m c (bat t) (grp t) (y 1) (y 2)).symm

/-- Every run ends with the attention output of the arguments in the result array and the arguments unchanged. -/
theorem run : θ_run defs (onTc (τ := τ) (main (F := Ideal))) ⟨m, fun _ => 0, ρ⟩ (fun r => ∀ c : Dev nD,
      r.2.mem ((c.tc : Thread nD τ).loc main_v6) = (args m c).out kexp
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (array m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩)
    (run_exact m ρ (tileOut m) fun c t σ h => body_writes m c t σ h)

end Cert.KernelIdeal.Hand

end
-- ==== Proof.RefRun.lean ====
module

public import proofs.«01_k».proof.Proof.Spec
public import proofs.«01_k».proof.Proof.Gen.ReferenceIdeal.Frame

@[expose] public section

noncomputable section

/-!
# What every run of the reference ends with

The result array is the one the chain of host operations and the two small kernels computes, and the arguments are unchanged.
-/

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxRecDepth 16384 in
/-- Every run ends with the result the chain computes and the arguments as launched. -/
theorem run : θ_run defs (onTc (τ := τ) (main (F := F))) ⟨m, fun _ => 0, ρ⟩ (fun r => ∀ c : Dev nD,
      r.2.mem ((c.tc : Thread nD τ).loc main_v94) = W9 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨h c _ (mem_uc main_v94 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.ReferenceIdeal.Hand

end
-- ==== Proof.Algebraic.lean ====
module

public import proofs.«01_k».proof.Defs
public import proofs.«01_k».proof.Proof.Bytes
public import proofs.«01_k».proof.Proof.KernelValue
public import proofs.«01_k».proof.Proof.RefRun
public import Idealize.ShloMosaic.Lib.StableHlo.RunHlo
public import proofs.«01_k».proof.Proof.Gen.Pre_scales_encode_powers_of_two

@[expose] public section

noncomputable section

/-!
# Kernel and reference agree

From memories with the same argument arrays, whose scale bytes are between 1 and 254, both programs end with the same
result.
-/

namespace Cert.Proof

open Idealize.ShloMosaic Idealize.SL.Sem Cert.Mx

/-- The reference's result array. -/
theorem reference_out (m : (ℓ : Loc ReferenceIdeal.nD ReferenceIdeal.τ ReferenceIdeal.sig) → Buf (Elt Ideal) ℓ) (ρ : Dev ReferenceIdeal.nD → PrngReg)
    (c : Dev ReferenceIdeal.nD) (hA : (ReferenceIdeal.Hand.args m c).Normal) :
    ReferenceIdeal.Gen.W9 m ρ c (Proc.devRef .tc ReferenceIdeal.main_v94) = (ReferenceIdeal.Hand.args m c).out KernelIdeal.Hand.kexp := by
  funext i
  have hi : i = ix3 (i 0 : Fin 3) (i 1 : Fin 640) (i 2 : Fin 1792) := by
    funext a
    match a with
    | ⟨0, _⟩ => rfl
    | ⟨1, _⟩ => rfl
    | ⟨2, _⟩ => rfl
  rw [hi]
  exact (ReferenceIdeal.Hand.result_at m ρ c _ _ _).trans (refOut_eq hA _ _ _ _ rfl _)

theorem algebraic : Cert.algebraic_KernelIdeal_ReferenceIdeal_pre_scales_encode_powers_of_two
    (hKernelIdeal := KernelIdeal.Gen.facts) (hReferenceIdeal := ReferenceIdeal.Gen.facts)
    (hPre_scales_encode_powers_of_two := Pre_scales_encode_powers_of_two.Gen.facts) := by
  letI := Pre_scales_encode_powers_of_two.Gen.facts
  intro m g m' g' hpre hargs
  have hN : ∀ c, (KernelIdeal.Hand.args m c).Normal := fun c => normal_of_pre _ (hpre c)
  have he : ∀ c, ReferenceIdeal.Hand.args m' c = KernelIdeal.Hand.args m c := fun c => by
    obtain ⟨h0, h1, h2, h3, h4, h5⟩ := hargs c
    unfold ReferenceIdeal.Hand.args KernelIdeal.Hand.args
    rw [h0, h1, h2, h3, h4, h5]
  refine ⟨fun c => (KernelIdeal.Hand.args m c).out KernelIdeal.Hand.kexp, KernelIdeal.Hand.run m g,
    θ_run_mono (ReferenceIdeal.Hand.run m' g') fun r hr c => ?_⟩
  refine ⟨(hr c).1.trans ?_, (hr c).2⟩
  rw [reference_out m' g' c (he c ▸ hN c), he c]

end Cert.Proof

end
-- ==== Proof.lean ====
module

public import proofs.«01_k».proof.Defs
public import proofs.«01_k».proof.Proof.KernelFrame
public import proofs.«01_k».proof.Proof.KernelIdealFrame
public import proofs.«01_k».proof.Proof.Algebraic
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.Pre_scales_encode_powers_of_two
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

/-!
# The certificate's claim, assembled
-/

namespace Cert.Proof

open Idealize.ShloMosaic Idealize.SL.Sem

theorem preserves : Cert.preserves_Kernel_KernelIdeal := by
  unfold Cert.preserves_Kernel_KernelIdeal
  exact IdealRules.named_const.statement _ _ _ _ _ rfl

theorem claim : Cert.Claim :=
  ⟨Cert.Kernel.Gen.facts, Cert.KernelIdeal.Gen.facts, Cert.ReferenceIdeal.Gen.facts, Cert.Pre_scales_encode_powers_of_two.Gen.facts,
    fun m g _ => Cert.Kernel.Hand.frame m g, fun m g _ => Cert.KernelIdeal.Hand.frame m g, fun m g _ => Cert.KernelIdeal.Hand.frame m g,
    fun m g _ => Cert.ReferenceIdeal.Gen.frame m g, fun m g _ => Cert.ReferenceIdeal.Gen.frame m g, preserves, algebraic⟩

end Cert.Proof

end
